-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![4, 8192, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S3x256x2048 : Shape := ⟨3, ![3, 256, 2048]⟩
abbrev S2x256x2048 : Shape := ⟨3, ![2, 256, 2048]⟩
abbrev S256x2048 : Shape := ⟨2, ![256, 2048]⟩
abbrev S3 : Shape := ⟨1, ![3]⟩
abbrev S7 : Shape := ⟨1, ![7]⟩
abbrev S2 : Shape := ⟨1, ![2]⟩
abbrev S1 : Shape := ⟨1, ![1]⟩
abbrev S_ : Shape := ⟨0, ![]⟩
abbrev S1x256x2048 : Shape := ⟨3, ![1, 256, 2048]⟩
abbrev S1x2048 : Shape := ⟨2, ![1, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .bf16⟩
  | .local _ .vmem, ⟨0, _⟩ => ⟨S2048, .f32⟩
  | .local _ .vmem, ⟨1, _⟩ => ⟨S3x256x2048, .bf16⟩
  | .local _ .vmem, ⟨2, _⟩ => ⟨S2x256x2048, .bf16⟩
  | .local _ .vmem, ⟨3, _⟩ => ⟨S256x2048, .f32⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_8 : BitVec 32 := 16#32
  let v19 : BitVec 32 := Scalar.muli v2 c16_i32_8
  let v20 : BitVec 32 := Scalar.addi c0_i32 v19
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.subi v5 c1_i32_4
  let c8_i32_5 : BitVec 32 := 8#32
  let v13 : BitVec 32 := Scalar.addi v12 c8_i32_5
  let c4_i32_6 : BitVec 32 := 4#32
  let v14 : BitVec 32 := Scalar.remsi v13 c4_i32_6
  let c4_i32_9 : BitVec 32 := 4#32
  let v21 : BitVec 32 := Scalar.muli v14 c4_i32_9
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.muli v8 c1_i32_10
  let v24 : BitVec 32 := Scalar.addi v22 v23
  v24.toNat
def k0_dev2 (d0 : Dev nD) : Nat :=
  let c0_i32_13 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_12 : BitVec 32 := 16#32
  let v25 : BitVec 32 := Scalar.muli v2 c16_i32_12
  let v26 : BitVec 32 := Scalar.addi c0_i32_13 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c8_i32 : BitVec 32 := 8#32
  let v10 : BitVec 32 := Scalar.addi v9 c8_i32
  let c4_i32_3 : BitVec 32 := 4#32
  let v11 : BitVec 32 := Scalar.remsi v10 c4_i32_3
  let c4_i32_14 : BitVec 32 := 4#32
  let v27 : BitVec 32 := Scalar.muli v11 c4_i32_14
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v29 : BitVec 32 := Scalar.muli v8 c1_i32_15
  let v30 : BitVec 32 := Scalar.addi v28 v29
  v30.toNat
def k0_dev3 (d0 : Dev nD) : Nat :=
  let c0_i32_19 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_16 v2
  let c16_i32_18 : BitVec 32 := 16#32
  let v32 : BitVec 32 := Scalar.muli v31 c16_i32_18
  let v33 : BitVec 32 := Scalar.addi c0_i32_19 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_20 : BitVec 32 := 4#32
  let v34 : BitVec 32 := Scalar.muli v5 c4_i32_20
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v36 : BitVec 32 := Scalar.muli v8 c1_i32_21
  let v37 : BitVec 32 := Scalar.addi v35 v36
  v37.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_22 : BitVec 32 := 0#32
  let v38 : BitVec 1 := Scalar.cmpi .sgt v8 c0_i32_22
  let v39 : BitVec 32 := Scalar.extui v38
  let c0_i32_23 : BitVec 32 := 0#32
  let v40 : BitVec 1 := Scalar.cmpi .ne v39 c0_i32_23
  v40

def k0_dev4 (d0 : Dev nD) : Nat :=
  let c0_i32_420 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_419 : BitVec 32 := 16#32
  let v522 : BitVec 32 := Scalar.muli v2 c16_i32_419
  let v523 : BitVec 32 := Scalar.addi c0_i32_420 v522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_421 : BitVec 32 := 4#32
  let v524 : BitVec 32 := Scalar.muli v5 c4_i32_421
  let v525 : BitVec 32 := Scalar.addi v523 v524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c1_i32_422 : BitVec 32 := 1#32
  let v526 : BitVec 32 := Scalar.muli v521 c1_i32_422
  let v527 : BitVec 32 := Scalar.addi v525 v526
  v527.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v41 : BitVec 1 := Scalar.cmpi .slt v8 c3_i32
  let v42 : BitVec 32 := Scalar.extui v41
  let c0_i32_24 : BitVec 32 := 0#32
  let v43 : BitVec 1 := Scalar.cmpi .ne v42 c0_i32_24
  v43

def k0_dev5 (d0 : Dev nD) : Nat :=
  let c0_i32_420 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_419 : BitVec 32 := 16#32
  let v522 : BitVec 32 := Scalar.muli v2 c16_i32_419
  let v523 : BitVec 32 := Scalar.addi c0_i32_420 v522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_421 : BitVec 32 := 4#32
  let v524 : BitVec 32 := Scalar.muli v5 c4_i32_421
  let v525 : BitVec 32 := Scalar.addi v523 v524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c1_i32_422 : BitVec 32 := 1#32
  let v526 : BitVec 32 := Scalar.muli v521 c1_i32_422
  let v527 : BitVec 32 := Scalar.addi v525 v526
  v527.toNat
def k0_off1 (d0 : Dev nD) : Fin 3 → Nat :=
  let c0_i32_31 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32 : BitVec 32 := 2048#32
  let v15 : BitVec 32 := Scalar.muli v8 c2048_i32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v16 : BitVec 32 := Scalar.muli v2 c1024_i32
  let v17 : BitVec 32 := Scalar.addi v15 v16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_29 : BitVec 32 := 8#32
  let v52 : BitVec 32 := Scalar.addi v5 c8_i32_29
  let c4_i32_30 : BitVec 32 := 4#32
  let v53 : BitVec 32 := Scalar.remsi v52 c4_i32_30
  let c256_i32 : BitVec 32 := 256#32
  let v54 : BitVec 32 := Scalar.muli v53 c256_i32
  let v55 : BitVec 32 := Scalar.addi v17 v54
  let c0_i32_33 : BitVec 32 := 0#32
  ![0, v55.toNat, 0]
def k0_dev6 (d0 : Dev nD) : Nat :=
  let c0_i32_50 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_49 : BitVec 32 := 16#32
  let v73 : BitVec 32 := Scalar.muli v2 c16_i32_49
  let v74 : BitVec 32 := Scalar.addi c0_i32_50 v73
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c8_i32 : BitVec 32 := 8#32
  let v10 : BitVec 32 := Scalar.addi v9 c8_i32
  let c4_i32_3 : BitVec 32 := 4#32
  let v11 : BitVec 32 := Scalar.remsi v10 c4_i32_3
  let c4_i32_51 : BitVec 32 := 4#32
  let v75 : BitVec 32 := Scalar.muli v11 c4_i32_51
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v77 : BitVec 32 := Scalar.muli v8 c1_i32_52
  let v78 : BitVec 32 := Scalar.addi v76 v77
  v78.toNat
def k0_off2 (d0 : Dev nD) (c0_i32_41 : BitVec 32) : Fin 3 → Nat :=
  let c0_i32_58 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32 : BitVec 32 := 2048#32
  let v15 : BitVec 32 := Scalar.muli v8 c2048_i32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v16 : BitVec 32 := Scalar.muli v2 c1024_i32
  let v17 : BitVec 32 := Scalar.addi v15 v16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v69 : BitVec 32 := Scalar.subi v5 c0_i32_41
  let c1_i32_42 : BitVec 32 := 1#32
  let v70 : BitVec 32 := Scalar.subi v69 c1_i32_42
  let c8_i32_43 : BitVec 32 := 8#32
  let v71 : BitVec 32 := Scalar.addi v70 c8_i32_43
  let c4_i32_44 : BitVec 32 := 4#32
  let v72 : BitVec 32 := Scalar.remsi v71 c4_i32_44
  let c256_i32_57 : BitVec 32 := 256#32
  let v87 : BitVec 32 := Scalar.muli v72 c256_i32_57
  let v88 : BitVec 32 := Scalar.addi v17 v87
  let c0_i32_60 : BitVec 32 := 0#32
  ![0, v88.toNat, 0]
def k0_dev7 (d0 : Dev nD) : Nat :=
  let c0_i32_101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_100 : BitVec 32 := 16#32
  let v127 : BitVec 32 := Scalar.muli v2 c16_i32_100
  let v128 : BitVec 32 := Scalar.addi c0_i32_101 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c8_i32 : BitVec 32 := 8#32
  let v10 : BitVec 32 := Scalar.addi v9 c8_i32
  let c4_i32_3 : BitVec 32 := 4#32
  let v11 : BitVec 32 := Scalar.remsi v10 c4_i32_3
  let c4_i32_102 : BitVec 32 := 4#32
  let v129 : BitVec 32 := Scalar.muli v11 c4_i32_102
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v131 : BitVec 32 := Scalar.muli v8 c1_i32_103
  let v132 : BitVec 32 := Scalar.addi v130 v131
  v132.toNat
def k0_dev8 (d0 : Dev nD) : Nat :=
  let c0_i32_153 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_152 : BitVec 32 := 16#32
  let v181 : BitVec 32 := Scalar.muli v2 c16_i32_152
  let v182 : BitVec 32 := Scalar.addi c0_i32_153 v181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c8_i32 : BitVec 32 := 8#32
  let v10 : BitVec 32 := Scalar.addi v9 c8_i32
  let c4_i32_3 : BitVec 32 := 4#32
  let v11 : BitVec 32 := Scalar.remsi v10 c4_i32_3
  let c4_i32_154 : BitVec 32 := 4#32
  let v183 : BitVec 32 := Scalar.muli v11 c4_i32_154
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v185 : BitVec 32 := Scalar.muli v8 c1_i32_155
  let v186 : BitVec 32 := Scalar.addi v184 v185
  v186.toNat
def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32 : BitVec 32 := 2048#32
  let v15 : BitVec 32 := Scalar.muli v8 c2048_i32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v16 : BitVec 32 := Scalar.muli v2 c1024_i32
  let v17 : BitVec 32 := Scalar.addi v15 v16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_195 : BitVec 32 := 1#32
  let v231 : BitVec 32 := Scalar.addi v5 c1_i32_195
  let c8_i32_196 : BitVec 32 := 8#32
  let v232 : BitVec 32 := Scalar.addi v231 c8_i32_196
  let c4_i32_197 : BitVec 32 := 4#32
  let v233 : BitVec 32 := Scalar.remsi v232 c4_i32_197
  let c256_i32_198 : BitVec 32 := 256#32
  let v234 : BitVec 32 := Scalar.muli v233 c256_i32_198
  let v235 : BitVec 32 := Scalar.addi v17 v234
  let c0_i32_201 : BitVec 32 := 0#32
  ![v235.toNat, 0]
def k0_off4 (d0 : Dev nD) (c0_i32_205 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32 : BitVec 32 := 2048#32
  let v15 : BitVec 32 := Scalar.muli v8 c2048_i32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v16 : BitVec 32 := Scalar.muli v2 c1024_i32
  let v17 : BitVec 32 := Scalar.addi v15 v16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_204 : BitVec 32 := 1#32
  let v241 : BitVec 32 := Scalar.addi v5 c1_i32_204
  let v242 : BitVec 32 := Scalar.subi v241 c0_i32_205
  let c8_i32_206 : BitVec 32 := 8#32
  let v243 : BitVec 32 := Scalar.addi v242 c8_i32_206
  let c4_i32_207 : BitVec 32 := 4#32
  let v244 : BitVec 32 := Scalar.remsi v243 c4_i32_207
  let c256_i32_208 : BitVec 32 := 256#32
  let v245 : BitVec 32 := Scalar.muli v244 c256_i32_208
  let v246 : BitVec 32 := Scalar.addi v17 v245
  let c0_i32_216 : BitVec 32 := 0#32
  ![v246.toNat, 0]
def k0_dev9 (d0 : Dev nD) : Nat :=
  let c0_i32_213 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_212 : BitVec 32 := 16#32
  let v247 : BitVec 32 := Scalar.muli v2 c16_i32_212
  let v248 : BitVec 32 := Scalar.addi c0_i32_213 v247
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c8_i32 : BitVec 32 := 8#32
  let v10 : BitVec 32 := Scalar.addi v9 c8_i32
  let c4_i32_3 : BitVec 32 := 4#32
  let v11 : BitVec 32 := Scalar.remsi v10 c4_i32_3
  let c4_i32_214 : BitVec 32 := 4#32
  let v249 : BitVec 32 := Scalar.muli v11 c4_i32_214
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v251 : BitVec 32 := Scalar.muli v8 c1_i32_215
  let v252 : BitVec 32 := Scalar.addi v250 v251
  v252.toNat
def k0_dev10 (d0 : Dev nD) : Nat :=
  let c0_i32_245 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_244 : BitVec 32 := 16#32
  let v284 : BitVec 32 := Scalar.muli v2 c16_i32_244
  let v285 : BitVec 32 := Scalar.addi c0_i32_245 v284
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c8_i32 : BitVec 32 := 8#32
  let v10 : BitVec 32 := Scalar.addi v9 c8_i32
  let c4_i32_3 : BitVec 32 := 4#32
  let v11 : BitVec 32 := Scalar.remsi v10 c4_i32_3
  let c4_i32_246 : BitVec 32 := 4#32
  let v286 : BitVec 32 := Scalar.muli v11 c4_i32_246
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_247 : BitVec 32 := 1#32
  let v288 : BitVec 32 := Scalar.muli v8 c1_i32_247
  let v289 : BitVec 32 := Scalar.addi v287 v288
  v289.toNat
def k0_dev11 (d0 : Dev nD) : Nat :=
  let c0_i32_272 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_271 : BitVec 32 := 16#32
  let v318 : BitVec 32 := Scalar.muli v2 c16_i32_271
  let v319 : BitVec 32 := Scalar.addi c0_i32_272 v318
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c8_i32 : BitVec 32 := 8#32
  let v10 : BitVec 32 := Scalar.addi v9 c8_i32
  let c4_i32_3 : BitVec 32 := 4#32
  let v11 : BitVec 32 := Scalar.remsi v10 c4_i32_3
  let c4_i32_273 : BitVec 32 := 4#32
  let v320 : BitVec 32 := Scalar.muli v11 c4_i32_273
  let v321 : BitVec 32 := Scalar.addi v319 v320
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_274 : BitVec 32 := 1#32
  let v322 : BitVec 32 := Scalar.muli v8 c1_i32_274
  let v323 : BitVec 32 := Scalar.addi v321 v322
  v323.toNat
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32_298 : BitVec 32 := 2048#32
  let v355 : BitVec 32 := Scalar.muli v8 c2048_i32_298
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_299 : BitVec 32 := 1024#32
  let v356 : BitVec 32 := Scalar.muli v2 c1024_i32_299
  let v357 : BitVec 32 := Scalar.addi v355 v356
  let c0_i32_307 : BitVec 32 := 0#32
  ![v357.toNat, 0]
def k0_dev12 (d0 : Dev nD) : Nat :=
  let c0_i32_304 : BitVec 32 := 0#32
  let c1_i32_300 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v358 : BitVec 32 := Scalar.subi c1_i32_300 v2
  let c16_i32_303 : BitVec 32 := 16#32
  let v359 : BitVec 32 := Scalar.muli v358 c16_i32_303
  let v360 : BitVec 32 := Scalar.addi c0_i32_304 v359
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_305 : BitVec 32 := 4#32
  let v361 : BitVec 32 := Scalar.muli v5 c4_i32_305
  let v362 : BitVec 32 := Scalar.addi v360 v361
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v363 : BitVec 32 := Scalar.muli v8 c1_i32_306
  let v364 : BitVec 32 := Scalar.addi v362 v363
  v364.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_309 : BitVec 32 := 0#32
  let v371 : BitVec 1 := Scalar.cmpi .sge v8 c0_i32_309
  let c3_i32_310 : BitVec 32 := 3#32
  let v372 : BitVec 1 := Scalar.cmpi .slt v8 c3_i32_310
  let v373 : BitVec 1 := Scalar.andi v371 v372
  let v374 : BitVec 32 := Scalar.extui v373
  let c0_i32_311 : BitVec 32 := 0#32
  let v375 : BitVec 1 := Scalar.cmpi .ne v374 c0_i32_311
  v375

def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_417 : BitVec 32 := 0#32
  let v521 : BitVec 32 := Scalar.subi v8 c0_i32_417
  let c2048_i32_420 : BitVec 32 := 2048#32
  let v525 : BitVec 32 := Scalar.muli v521 c2048_i32_420
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_421 : BitVec 32 := 1024#32
  let v526 : BitVec 32 := Scalar.muli v2 c1024_i32_421
  let v527 : BitVec 32 := Scalar.addi v525 v526
  let c0_i32_429 : BitVec 32 := 0#32
  ![v527.toNat, 0]
def k0_dev13 (d0 : Dev nD) : Nat :=
  let c0_i32_426 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_425 : BitVec 32 := 16#32
  let v529 : BitVec 32 := Scalar.muli v2 c16_i32_425
  let v530 : BitVec 32 := Scalar.addi c0_i32_426 v529
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_427 : BitVec 32 := 4#32
  let v531 : BitVec 32 := Scalar.muli v5 c4_i32_427
  let v532 : BitVec 32 := Scalar.addi v530 v531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_422 : BitVec 32 := 1#32
  let v528 : BitVec 32 := Scalar.addi v8 c1_i32_422
  let c1_i32_428 : BitVec 32 := 1#32
  let v533 : BitVec 32 := Scalar.muli v528 c1_i32_428
  let v534 : BitVec 32 := Scalar.addi v532 v533
  v534.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_312 : BitVec 32 := 3#32
  let v376 : BitVec 1 := Scalar.cmpi .sle v8 c3_i32_312
  let c0_i32_313 : BitVec 32 := 0#32
  let v377 : BitVec 1 := Scalar.cmpi .sgt v8 c0_i32_313
  let v378 : BitVec 1 := Scalar.andi v376 v377
  let v379 : BitVec 32 := Scalar.extui v378
  let c0_i32_314 : BitVec 32 := 0#32
  let v380 : BitVec 1 := Scalar.cmpi .ne v379 c0_i32_314
  v380

def k0_off7 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_417 : BitVec 32 := 0#32
  let v521 : BitVec 32 := Scalar.addi v8 c0_i32_417
  let c2048_i32_420 : BitVec 32 := 2048#32
  let v525 : BitVec 32 := Scalar.muli v521 c2048_i32_420
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_421 : BitVec 32 := 1024#32
  let v526 : BitVec 32 := Scalar.muli v2 c1024_i32_421
  let v527 : BitVec 32 := Scalar.addi v525 v526
  let c0_i32_428 : BitVec 32 := 0#32
  ![v527.toNat, 0]
def k0_dev14 (d0 : Dev nD) : Nat :=
  let c0_i32_425 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_424 : BitVec 32 := 16#32
  let v529 : BitVec 32 := Scalar.muli v2 c16_i32_424
  let v530 : BitVec 32 := Scalar.addi c0_i32_425 v529
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_426 : BitVec 32 := 4#32
  let v531 : BitVec 32 := Scalar.muli v5 c4_i32_426
  let v532 : BitVec 32 := Scalar.addi v530 v531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v528 : BitVec 32 := Scalar.addi v8 c_m1_i32
  let c1_i32_427 : BitVec 32 := 1#32
  let v533 : BitVec 32 := Scalar.muli v528 c1_i32_427
  let v534 : BitVec 32 := Scalar.addi v532 v533
  v534.toNat
@[reducible] def k0_t1_loop : Scf.Loop 32 :=
  let c0_i32_315 : BitVec 32 := 0#32
  let c4_i32_316 : BitVec 32 := 4#32
  let v381 : BitVec 32 := Scalar.addi c0_i32_315 c4_i32_316
  let c1_i32_317 : BitVec 32 := 1#32
  ⟨c0_i32_315, v381, c1_i32_317⟩
def k0_off8 (d0 : Dev nD) (k0_t1 : Fin k0_t1_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32 : BitVec 32 := 2048#32
  let v15 : BitVec 32 := Scalar.muli v8 c2048_i32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v16 : BitVec 32 := Scalar.muli v2 c1024_i32
  let v17 : BitVec 32 := Scalar.addi v15 v16
  let c0_i32_315 : BitVec 32 := 0#32
  let c1_i32_317 : BitVec 32 := 1#32
  let arg24 : BitVec 32 := Scf.iv c0_i32_315 c1_i32_317 k0_t1
  let c256_i32_417 : BitVec 32 := 256#32
  let v521 : BitVec 32 := Scalar.muli arg24 c256_i32_417
  let v522 : BitVec 32 := Scalar.addi v17 v521
  let c0_i32_419 : BitVec 32 := 0#32
  ![v522.toNat, 0]
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v382 : BitVec 1 := Scalar.cmpi .sge v8 c1_i32_319
  let v383 : BitVec 32 := Scalar.extui v382
  let c0_i32_320 : BitVec 32 := 0#32
  let v384 : BitVec 1 := Scalar.cmpi .ne v383 c0_i32_320
  v384

def k0_off9 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c0_i32_418 : BitVec 32 := 0#32
  let v522 : BitVec 32 := Scalar.subi v521 c0_i32_418
  let c2048_i32_421 : BitVec 32 := 2048#32
  let v526 : BitVec 32 := Scalar.muli v522 c2048_i32_421
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_422 : BitVec 32 := 1024#32
  let v527 : BitVec 32 := Scalar.muli v2 c1024_i32_422
  let v528 : BitVec 32 := Scalar.addi v526 v527
  let c0_i32_430 : BitVec 32 := 0#32
  ![v528.toNat, 0]
def k0_dev15 (d0 : Dev nD) : Nat :=
  let c0_i32_440 : BitVec 32 := 0#32
  let c1_i32_436 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v546 : BitVec 32 := Scalar.subi c1_i32_436 v2
  let c16_i32_439 : BitVec 32 := 16#32
  let v547 : BitVec 32 := Scalar.muli v546 c16_i32_439
  let v548 : BitVec 32 := Scalar.addi c0_i32_440 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_441 : BitVec 32 := 4#32
  let v549 : BitVec 32 := Scalar.muli v5 c4_i32_441
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_442 : BitVec 32 := 1#32
  let v551 : BitVec 32 := Scalar.muli v8 c1_i32_442
  let v552 : BitVec 32 := Scalar.addi v550 v551
  v552.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_321 : BitVec 32 := 2#32
  let v385 : BitVec 1 := Scalar.cmpi .sle v8 c2_i32_321
  let v386 : BitVec 32 := Scalar.extui v385
  let c0_i32_322 : BitVec 32 := 0#32
  let v387 : BitVec 1 := Scalar.cmpi .ne v386 c0_i32_322
  v387

def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c0_i32_418 : BitVec 32 := 0#32
  let v522 : BitVec 32 := Scalar.addi v521 c0_i32_418
  let c2048_i32_421 : BitVec 32 := 2048#32
  let v526 : BitVec 32 := Scalar.muli v522 c2048_i32_421
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_422 : BitVec 32 := 1024#32
  let v527 : BitVec 32 := Scalar.muli v2 c1024_i32_422
  let v528 : BitVec 32 := Scalar.addi v526 v527
  let c0_i32_429 : BitVec 32 := 0#32
  ![v528.toNat, 0]
def k0_dev16 (d0 : Dev nD) : Nat :=
  let c0_i32_439 : BitVec 32 := 0#32
  let c1_i32_435 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v546 : BitVec 32 := Scalar.subi c1_i32_435 v2
  let c16_i32_438 : BitVec 32 := 16#32
  let v547 : BitVec 32 := Scalar.muli v546 c16_i32_438
  let v548 : BitVec 32 := Scalar.addi c0_i32_439 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_440 : BitVec 32 := 4#32
  let v549 : BitVec 32 := Scalar.muli v5 c4_i32_440
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_441 : BitVec 32 := 1#32
  let v551 : BitVec 32 := Scalar.muli v8 c1_i32_441
  let v552 : BitVec 32 := Scalar.addi v550 v551
  v552.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_323 : BitVec 32 := 1#32
  let v388 : BitVec 1 := Scalar.cmpi .sge v8 c1_i32_323
  let c3_i32_324 : BitVec 32 := 3#32
  let v389 : BitVec 1 := Scalar.cmpi .slt v8 c3_i32_324
  let v390 : BitVec 1 := Scalar.andi v388 v389
  let v391 : BitVec 32 := Scalar.extui v390
  let c0_i32_325 : BitVec 32 := 0#32
  let v392 : BitVec 1 := Scalar.cmpi .ne v391 c0_i32_325
  v392

def k0_off11 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c2048_i32_420 : BitVec 32 := 2048#32
  let v525 : BitVec 32 := Scalar.muli v521 c2048_i32_420
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_421 : BitVec 32 := 1024#32
  let v526 : BitVec 32 := Scalar.muli v2 c1024_i32_421
  let v527 : BitVec 32 := Scalar.addi v525 v526
  let c0_i32_429 : BitVec 32 := 0#32
  ![v527.toNat, 0]
def k0_dev17 (d0 : Dev nD) : Nat :=
  let c0_i32_426 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_425 : BitVec 32 := 16#32
  let v529 : BitVec 32 := Scalar.muli v2 c16_i32_425
  let v530 : BitVec 32 := Scalar.addi c0_i32_426 v529
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_427 : BitVec 32 := 4#32
  let v531 : BitVec 32 := Scalar.muli v5 c4_i32_427
  let v532 : BitVec 32 := Scalar.addi v530 v531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_422 : BitVec 32 := 1#32
  let v528 : BitVec 32 := Scalar.addi v8 c1_i32_422
  let c1_i32_428 : BitVec 32 := 1#32
  let v533 : BitVec 32 := Scalar.muli v528 c1_i32_428
  let v534 : BitVec 32 := Scalar.addi v532 v533
  v534.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_326 : BitVec 32 := 2#32
  let v393 : BitVec 1 := Scalar.cmpi .sle v8 c2_i32_326
  let c0_i32_327 : BitVec 32 := 0#32
  let v394 : BitVec 1 := Scalar.cmpi .sgt v8 c0_i32_327
  let v395 : BitVec 1 := Scalar.andi v393 v394
  let v396 : BitVec 32 := Scalar.extui v395
  let c0_i32_328 : BitVec 32 := 0#32
  let v397 : BitVec 1 := Scalar.cmpi .ne v396 c0_i32_328
  v397

def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c2048_i32_420 : BitVec 32 := 2048#32
  let v525 : BitVec 32 := Scalar.muli v521 c2048_i32_420
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_421 : BitVec 32 := 1024#32
  let v526 : BitVec 32 := Scalar.muli v2 c1024_i32_421
  let v527 : BitVec 32 := Scalar.addi v525 v526
  let c0_i32_428 : BitVec 32 := 0#32
  ![v527.toNat, 0]
def k0_dev18 (d0 : Dev nD) : Nat :=
  let c0_i32_425 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_424 : BitVec 32 := 16#32
  let v529 : BitVec 32 := Scalar.muli v2 c16_i32_424
  let v530 : BitVec 32 := Scalar.addi c0_i32_425 v529
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_426 : BitVec 32 := 4#32
  let v531 : BitVec 32 := Scalar.muli v5 c4_i32_426
  let v532 : BitVec 32 := Scalar.addi v530 v531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v528 : BitVec 32 := Scalar.addi v8 c_m1_i32
  let c1_i32_427 : BitVec 32 := 1#32
  let v533 : BitVec 32 := Scalar.muli v528 c1_i32_427
  let v534 : BitVec 32 := Scalar.addi v532 v533
  v534.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_329 : BitVec 32 := 1#32
  let v398 : BitVec 1 := Scalar.cmpi .sge v8 c1_i32_329
  let v399 : BitVec 32 := Scalar.extui v398
  let c0_i32_330 : BitVec 32 := 0#32
  let v400 : BitVec 1 := Scalar.cmpi .ne v399 c0_i32_330
  v400

@[reducible] def k0_t2_loop : Scf.Loop 32 :=
  let c0_i32_420 : BitVec 32 := 0#32
  let c4_i32_421 : BitVec 32 := 4#32
  let v525 : BitVec 32 := Scalar.addi c0_i32_420 c4_i32_421
  let c1_i32_422 : BitVec 32 := 1#32
  ⟨c0_i32_420, v525, c1_i32_422⟩
def k0_off13 (d0 : Dev nD) (k0_t2 : Fin k0_t2_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c2048_i32_418 : BitVec 32 := 2048#32
  let v522 : BitVec 32 := Scalar.muli v521 c2048_i32_418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_419 : BitVec 32 := 1024#32
  let v523 : BitVec 32 := Scalar.muli v2 c1024_i32_419
  let v524 : BitVec 32 := Scalar.addi v522 v523
  let c0_i32_420 : BitVec 32 := 0#32
  let c1_i32_422 : BitVec 32 := 1#32
  let arg24 : BitVec 32 := Scf.iv c0_i32_420 c1_i32_422 k0_t2
  let c256_i32_424 : BitVec 32 := 256#32
  let v526 : BitVec 32 := Scalar.muli arg24 c256_i32_424
  let v527 : BitVec 32 := Scalar.addi v524 v526
  let c0_i32_426 : BitVec 32 := 0#32
  ![v527.toNat, 0]
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_331 : BitVec 32 := 2#32
  let v401 : BitVec 1 := Scalar.cmpi .sle v8 c2_i32_331
  let v402 : BitVec 32 := Scalar.extui v401
  let c0_i32_332 : BitVec 32 := 0#32
  let v403 : BitVec 1 := Scalar.cmpi .ne v402 c0_i32_332
  v403

@[reducible] def k0_t3_loop : Scf.Loop 32 :=
  let c0_i32_420 : BitVec 32 := 0#32
  let c4_i32_421 : BitVec 32 := 4#32
  let v525 : BitVec 32 := Scalar.addi c0_i32_420 c4_i32_421
  let c1_i32_422 : BitVec 32 := 1#32
  ⟨c0_i32_420, v525, c1_i32_422⟩
def k0_off14 (d0 : Dev nD) (k0_t3 : Fin k0_t3_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c2048_i32_418 : BitVec 32 := 2048#32
  let v522 : BitVec 32 := Scalar.muli v521 c2048_i32_418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_419 : BitVec 32 := 1024#32
  let v523 : BitVec 32 := Scalar.muli v2 c1024_i32_419
  let v524 : BitVec 32 := Scalar.addi v522 v523
  let c0_i32_420 : BitVec 32 := 0#32
  let c1_i32_422 : BitVec 32 := 1#32
  let arg24 : BitVec 32 := Scf.iv c0_i32_420 c1_i32_422 k0_t3
  let c256_i32_424 : BitVec 32 := 256#32
  let v526 : BitVec 32 := Scalar.muli arg24 c256_i32_424
  let v527 : BitVec 32 := Scalar.addi v524 v526
  let c0_i32_426 : BitVec 32 := 0#32
  ![v527.toNat, 0]
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_333 : BitVec 32 := 2#32
  let v404 : BitVec 1 := Scalar.cmpi .sge v8 c2_i32_333
  let v405 : BitVec 32 := Scalar.extui v404
  let c0_i32_334 : BitVec 32 := 0#32
  let v406 : BitVec 1 := Scalar.cmpi .ne v405 c0_i32_334
  v406

def k0_off15 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c1_i32_418 : BitVec 32 := 1#32
  let v522 : BitVec 32 := Scalar.subi v521 c1_i32_418
  let c2048_i32_421 : BitVec 32 := 2048#32
  let v526 : BitVec 32 := Scalar.muli v522 c2048_i32_421
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_422 : BitVec 32 := 1024#32
  let v527 : BitVec 32 := Scalar.muli v2 c1024_i32_422
  let v528 : BitVec 32 := Scalar.addi v526 v527
  let c0_i32_430 : BitVec 32 := 0#32
  ![v528.toNat, 0]
def k0_dev19 (d0 : Dev nD) : Nat :=
  let c0_i32_440 : BitVec 32 := 0#32
  let c1_i32_436 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v546 : BitVec 32 := Scalar.subi c1_i32_436 v2
  let c16_i32_439 : BitVec 32 := 16#32
  let v547 : BitVec 32 := Scalar.muli v546 c16_i32_439
  let v548 : BitVec 32 := Scalar.addi c0_i32_440 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_441 : BitVec 32 := 4#32
  let v549 : BitVec 32 := Scalar.muli v5 c4_i32_441
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_442 : BitVec 32 := 1#32
  let v551 : BitVec 32 := Scalar.muli v8 c1_i32_442
  let v552 : BitVec 32 := Scalar.addi v550 v551
  v552.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_335 : BitVec 32 := 1#32
  let v407 : BitVec 1 := Scalar.cmpi .sle v8 c1_i32_335
  let v408 : BitVec 32 := Scalar.extui v407
  let c0_i32_336 : BitVec 32 := 0#32
  let v409 : BitVec 1 := Scalar.cmpi .ne v408 c0_i32_336
  v409

def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c1_i32_418 : BitVec 32 := 1#32
  let v522 : BitVec 32 := Scalar.addi v521 c1_i32_418
  let c2048_i32_421 : BitVec 32 := 2048#32
  let v526 : BitVec 32 := Scalar.muli v522 c2048_i32_421
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_422 : BitVec 32 := 1024#32
  let v527 : BitVec 32 := Scalar.muli v2 c1024_i32_422
  let v528 : BitVec 32 := Scalar.addi v526 v527
  let c0_i32_429 : BitVec 32 := 0#32
  ![v528.toNat, 0]
def k0_dev20 (d0 : Dev nD) : Nat :=
  let c0_i32_439 : BitVec 32 := 0#32
  let c1_i32_435 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v546 : BitVec 32 := Scalar.subi c1_i32_435 v2
  let c16_i32_438 : BitVec 32 := 16#32
  let v547 : BitVec 32 := Scalar.muli v546 c16_i32_438
  let v548 : BitVec 32 := Scalar.addi c0_i32_439 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_440 : BitVec 32 := 4#32
  let v549 : BitVec 32 := Scalar.muli v5 c4_i32_440
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_441 : BitVec 32 := 1#32
  let v551 : BitVec 32 := Scalar.muli v8 c1_i32_441
  let v552 : BitVec 32 := Scalar.addi v550 v551
  v552.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_337 : BitVec 32 := 2#32
  let v410 : BitVec 1 := Scalar.cmpi .sge v8 c2_i32_337
  let c3_i32_338 : BitVec 32 := 3#32
  let v411 : BitVec 1 := Scalar.cmpi .slt v8 c3_i32_338
  let v412 : BitVec 1 := Scalar.andi v410 v411
  let v413 : BitVec 32 := Scalar.extui v412
  let c0_i32_339 : BitVec 32 := 0#32
  let v414 : BitVec 1 := Scalar.cmpi .ne v413 c0_i32_339
  v414

def k0_off17 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_417 : BitVec 32 := 2#32
  let v521 : BitVec 32 := Scalar.subi v8 c2_i32_417
  let c2048_i32_420 : BitVec 32 := 2048#32
  let v525 : BitVec 32 := Scalar.muli v521 c2048_i32_420
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_421 : BitVec 32 := 1024#32
  let v526 : BitVec 32 := Scalar.muli v2 c1024_i32_421
  let v527 : BitVec 32 := Scalar.addi v525 v526
  let c0_i32_429 : BitVec 32 := 0#32
  ![v527.toNat, 0]
def k0_dev21 (d0 : Dev nD) : Nat :=
  let c0_i32_426 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_425 : BitVec 32 := 16#32
  let v529 : BitVec 32 := Scalar.muli v2 c16_i32_425
  let v530 : BitVec 32 := Scalar.addi c0_i32_426 v529
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_427 : BitVec 32 := 4#32
  let v531 : BitVec 32 := Scalar.muli v5 c4_i32_427
  let v532 : BitVec 32 := Scalar.addi v530 v531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_422 : BitVec 32 := 1#32
  let v528 : BitVec 32 := Scalar.addi v8 c1_i32_422
  let c1_i32_428 : BitVec 32 := 1#32
  let v533 : BitVec 32 := Scalar.muli v528 c1_i32_428
  let v534 : BitVec 32 := Scalar.addi v532 v533
  v534.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v415 : BitVec 1 := Scalar.cmpi .sle v8 c1_i32_340
  let c0_i32_341 : BitVec 32 := 0#32
  let v416 : BitVec 1 := Scalar.cmpi .sgt v8 c0_i32_341
  let v417 : BitVec 1 := Scalar.andi v415 v416
  let v418 : BitVec 32 := Scalar.extui v417
  let c0_i32_342 : BitVec 32 := 0#32
  let v419 : BitVec 1 := Scalar.cmpi .ne v418 c0_i32_342
  v419

def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_417 : BitVec 32 := 2#32
  let v521 : BitVec 32 := Scalar.addi v8 c2_i32_417
  let c2048_i32_420 : BitVec 32 := 2048#32
  let v525 : BitVec 32 := Scalar.muli v521 c2048_i32_420
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_421 : BitVec 32 := 1024#32
  let v526 : BitVec 32 := Scalar.muli v2 c1024_i32_421
  let v527 : BitVec 32 := Scalar.addi v525 v526
  let c0_i32_428 : BitVec 32 := 0#32
  ![v527.toNat, 0]
def k0_dev22 (d0 : Dev nD) : Nat :=
  let c0_i32_425 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_424 : BitVec 32 := 16#32
  let v529 : BitVec 32 := Scalar.muli v2 c16_i32_424
  let v530 : BitVec 32 := Scalar.addi c0_i32_425 v529
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_426 : BitVec 32 := 4#32
  let v531 : BitVec 32 := Scalar.muli v5 c4_i32_426
  let v532 : BitVec 32 := Scalar.addi v530 v531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v528 : BitVec 32 := Scalar.addi v8 c_m1_i32
  let c1_i32_427 : BitVec 32 := 1#32
  let v533 : BitVec 32 := Scalar.muli v528 c1_i32_427
  let v534 : BitVec 32 := Scalar.addi v532 v533
  v534.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_343 : BitVec 32 := 2#32
  let v420 : BitVec 1 := Scalar.cmpi .sge v8 c2_i32_343
  let v421 : BitVec 32 := Scalar.extui v420
  let c0_i32_344 : BitVec 32 := 0#32
  let v422 : BitVec 1 := Scalar.cmpi .ne v421 c0_i32_344
  v422

@[reducible] def k0_t4_loop : Scf.Loop 32 :=
  let c0_i32_420 : BitVec 32 := 0#32
  let c4_i32_421 : BitVec 32 := 4#32
  let v525 : BitVec 32 := Scalar.addi c0_i32_420 c4_i32_421
  let c1_i32_422 : BitVec 32 := 1#32
  ⟨c0_i32_420, v525, c1_i32_422⟩
def k0_off19 (d0 : Dev nD) (k0_t4 : Fin k0_t4_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_417 : BitVec 32 := 2#32
  let v521 : BitVec 32 := Scalar.subi v8 c2_i32_417
  let c2048_i32_418 : BitVec 32 := 2048#32
  let v522 : BitVec 32 := Scalar.muli v521 c2048_i32_418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_419 : BitVec 32 := 1024#32
  let v523 : BitVec 32 := Scalar.muli v2 c1024_i32_419
  let v524 : BitVec 32 := Scalar.addi v522 v523
  let c0_i32_420 : BitVec 32 := 0#32
  let c1_i32_422 : BitVec 32 := 1#32
  let arg24 : BitVec 32 := Scf.iv c0_i32_420 c1_i32_422 k0_t4
  let c256_i32_424 : BitVec 32 := 256#32
  let v526 : BitVec 32 := Scalar.muli arg24 c256_i32_424
  let v527 : BitVec 32 := Scalar.addi v524 v526
  let c0_i32_426 : BitVec 32 := 0#32
  ![v527.toNat, 0]
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v423 : BitVec 1 := Scalar.cmpi .sle v8 c1_i32_345
  let v424 : BitVec 32 := Scalar.extui v423
  let c0_i32_346 : BitVec 32 := 0#32
  let v425 : BitVec 1 := Scalar.cmpi .ne v424 c0_i32_346
  v425

@[reducible] def k0_t5_loop : Scf.Loop 32 :=
  let c0_i32_420 : BitVec 32 := 0#32
  let c4_i32_421 : BitVec 32 := 4#32
  let v525 : BitVec 32 := Scalar.addi c0_i32_420 c4_i32_421
  let c1_i32_422 : BitVec 32 := 1#32
  ⟨c0_i32_420, v525, c1_i32_422⟩
def k0_off20 (d0 : Dev nD) (k0_t5 : Fin k0_t5_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_417 : BitVec 32 := 2#32
  let v521 : BitVec 32 := Scalar.addi v8 c2_i32_417
  let c2048_i32_418 : BitVec 32 := 2048#32
  let v522 : BitVec 32 := Scalar.muli v521 c2048_i32_418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_419 : BitVec 32 := 1024#32
  let v523 : BitVec 32 := Scalar.muli v2 c1024_i32_419
  let v524 : BitVec 32 := Scalar.addi v522 v523
  let c0_i32_420 : BitVec 32 := 0#32
  let c1_i32_422 : BitVec 32 := 1#32
  let arg24 : BitVec 32 := Scf.iv c0_i32_420 c1_i32_422 k0_t5
  let c256_i32_424 : BitVec 32 := 256#32
  let v526 : BitVec 32 := Scalar.muli arg24 c256_i32_424
  let v527 : BitVec 32 := Scalar.addi v524 v526
  let c0_i32_426 : BitVec 32 := 0#32
  ![v527.toNat, 0]
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_347 : BitVec 32 := 3#32
  let v426 : BitVec 1 := Scalar.cmpi .sge v8 c3_i32_347
  let v427 : BitVec 32 := Scalar.extui v426
  let c0_i32_348 : BitVec 32 := 0#32
  let v428 : BitVec 1 := Scalar.cmpi .ne v427 c0_i32_348
  v428

def k0_off21 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c2_i32_418 : BitVec 32 := 2#32
  let v522 : BitVec 32 := Scalar.subi v521 c2_i32_418
  let c2048_i32_421 : BitVec 32 := 2048#32
  let v526 : BitVec 32 := Scalar.muli v522 c2048_i32_421
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_422 : BitVec 32 := 1024#32
  let v527 : BitVec 32 := Scalar.muli v2 c1024_i32_422
  let v528 : BitVec 32 := Scalar.addi v526 v527
  let c0_i32_430 : BitVec 32 := 0#32
  ![v528.toNat, 0]
def k0_dev23 (d0 : Dev nD) : Nat :=
  let c0_i32_439 : BitVec 32 := 0#32
  let c1_i32_436 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v546 : BitVec 32 := Scalar.subi c1_i32_436 v2
  let c16_i32_438 : BitVec 32 := 16#32
  let v547 : BitVec 32 := Scalar.muli v546 c16_i32_438
  let v548 : BitVec 32 := Scalar.addi c0_i32_439 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_440 : BitVec 32 := 4#32
  let v549 : BitVec 32 := Scalar.muli v5 c4_i32_440
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_441 : BitVec 32 := 1#32
  let v551 : BitVec 32 := Scalar.muli v8 c1_i32_441
  let v552 : BitVec 32 := Scalar.addi v550 v551
  v552.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_349 : BitVec 32 := 0#32
  let v429 : BitVec 1 := Scalar.cmpi .sle v8 c0_i32_349
  let v430 : BitVec 32 := Scalar.extui v429
  let c0_i32_350 : BitVec 32 := 0#32
  let v431 : BitVec 1 := Scalar.cmpi .ne v430 c0_i32_350
  v431

def k0_off22 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c2_i32_418 : BitVec 32 := 2#32
  let v522 : BitVec 32 := Scalar.addi v521 c2_i32_418
  let c2048_i32_421 : BitVec 32 := 2048#32
  let v526 : BitVec 32 := Scalar.muli v522 c2048_i32_421
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_422 : BitVec 32 := 1024#32
  let v527 : BitVec 32 := Scalar.muli v2 c1024_i32_422
  let v528 : BitVec 32 := Scalar.addi v526 v527
  let c0_i32_429 : BitVec 32 := 0#32
  ![v528.toNat, 0]
def k0_dev24 (d0 : Dev nD) : Nat :=
  let c0_i32_438 : BitVec 32 := 0#32
  let c1_i32_435 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v546 : BitVec 32 := Scalar.subi c1_i32_435 v2
  let c16_i32_437 : BitVec 32 := 16#32
  let v547 : BitVec 32 := Scalar.muli v546 c16_i32_437
  let v548 : BitVec 32 := Scalar.addi c0_i32_438 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_439 : BitVec 32 := 4#32
  let v549 : BitVec 32 := Scalar.muli v5 c4_i32_439
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_440 : BitVec 32 := 1#32
  let v551 : BitVec 32 := Scalar.muli v8 c1_i32_440
  let v552 : BitVec 32 := Scalar.addi v550 v551
  v552.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_351 : BitVec 32 := 3#32
  let v432 : BitVec 1 := Scalar.cmpi .sge v8 c3_i32_351
  let v433 : BitVec 32 := Scalar.extui v432
  let c0_i32_352 : BitVec 32 := 0#32
  let v434 : BitVec 1 := Scalar.cmpi .ne v433 c0_i32_352
  v434

@[reducible] def k0_t6_loop : Scf.Loop 32 :=
  let c0_i32_420 : BitVec 32 := 0#32
  let c4_i32_421 : BitVec 32 := 4#32
  let v525 : BitVec 32 := Scalar.addi c0_i32_420 c4_i32_421
  let c1_i32_422 : BitVec 32 := 1#32
  ⟨c0_i32_420, v525, c1_i32_422⟩
def k0_off23 (d0 : Dev nD) (k0_t6 : Fin k0_t6_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_417 : BitVec 32 := 3#32
  let v521 : BitVec 32 := Scalar.subi v8 c3_i32_417
  let c2048_i32_418 : BitVec 32 := 2048#32
  let v522 : BitVec 32 := Scalar.muli v521 c2048_i32_418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_419 : BitVec 32 := 1024#32
  let v523 : BitVec 32 := Scalar.muli v2 c1024_i32_419
  let v524 : BitVec 32 := Scalar.addi v522 v523
  let c0_i32_420 : BitVec 32 := 0#32
  let c1_i32_422 : BitVec 32 := 1#32
  let arg24 : BitVec 32 := Scf.iv c0_i32_420 c1_i32_422 k0_t6
  let c256_i32_424 : BitVec 32 := 256#32
  let v526 : BitVec 32 := Scalar.muli arg24 c256_i32_424
  let v527 : BitVec 32 := Scalar.addi v524 v526
  let c0_i32_426 : BitVec 32 := 0#32
  ![v527.toNat, 0]
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_353 : BitVec 32 := 0#32
  let v435 : BitVec 1 := Scalar.cmpi .sle v8 c0_i32_353
  let v436 : BitVec 32 := Scalar.extui v435
  let c0_i32_354 : BitVec 32 := 0#32
  let v437 : BitVec 1 := Scalar.cmpi .ne v436 c0_i32_354
  v437

@[reducible] def k0_t7_loop : Scf.Loop 32 :=
  let c0_i32_420 : BitVec 32 := 0#32
  let c4_i32_421 : BitVec 32 := 4#32
  let v525 : BitVec 32 := Scalar.addi c0_i32_420 c4_i32_421
  let c1_i32_422 : BitVec 32 := 1#32
  ⟨c0_i32_420, v525, c1_i32_422⟩
def k0_off24 (d0 : Dev nD) (k0_t7 : Fin k0_t7_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_417 : BitVec 32 := 3#32
  let v521 : BitVec 32 := Scalar.addi v8 c3_i32_417
  let c2048_i32_418 : BitVec 32 := 2048#32
  let v522 : BitVec 32 := Scalar.muli v521 c2048_i32_418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_419 : BitVec 32 := 1024#32
  let v523 : BitVec 32 := Scalar.muli v2 c1024_i32_419
  let v524 : BitVec 32 := Scalar.addi v522 v523
  let c0_i32_420 : BitVec 32 := 0#32
  let c1_i32_422 : BitVec 32 := 1#32
  let arg24 : BitVec 32 := Scf.iv c0_i32_420 c1_i32_422 k0_t7
  let c256_i32_424 : BitVec 32 := 256#32
  let v526 : BitVec 32 := Scalar.muli arg24 c256_i32_424
  let v527 : BitVec 32 := Scalar.addi v524 v526
  let c0_i32_426 : BitVec 32 := 0#32
  ![v527.toNat, 0]
def k0_off25 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32_358 : BitVec 32 := 2048#32
  let v442 : BitVec 32 := Scalar.muli v8 c2048_i32_358
  let c1_i32_359 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v443 : BitVec 32 := Scalar.subi c1_i32_359 v2
  let c1024_i32_360 : BitVec 32 := 1024#32
  let v444 : BitVec 32 := Scalar.muli v443 c1024_i32_360
  let v445 : BitVec 32 := Scalar.addi v442 v444
  let c0_i32_368 : BitVec 32 := 0#32
  ![v445.toNat, 0]
@[reducible] def k0_t8_loop : Scf.Loop 32 :=
  let c0_i32_373 : BitVec 32 := 0#32
  let c4_i32_374 : BitVec 32 := 4#32
  let v461 : BitVec 32 := Scalar.addi c0_i32_373 c4_i32_374
  let c1_i32_375 : BitVec 32 := 1#32
  ⟨c0_i32_373, v461, c1_i32_375⟩
def k0_off26 (d0 : Dev nD) (k0_t8 : Fin k0_t8_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32_370 : BitVec 32 := 2048#32
  let v457 : BitVec 32 := Scalar.muli v8 c2048_i32_370
  let c1_i32_371 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v458 : BitVec 32 := Scalar.subi c1_i32_371 v2
  let c1024_i32_372 : BitVec 32 := 1024#32
  let v459 : BitVec 32 := Scalar.muli v458 c1024_i32_372
  let v460 : BitVec 32 := Scalar.addi v457 v459
  let c0_i32_373 : BitVec 32 := 0#32
  let c1_i32_375 : BitVec 32 := 1#32
  let arg24 : BitVec 32 := Scf.iv c0_i32_373 c1_i32_375 k0_t8
  let c256_i32_417 : BitVec 32 := 256#32
  let v521 : BitVec 32 := Scalar.muli arg24 c256_i32_417
  let v522 : BitVec 32 := Scalar.addi v460 v521
  let c0_i32_419 : BitVec 32 := 0#32
  ![v522.toNat, 0]
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_387 : BitVec 32 := 1#32
  let v473 : BitVec 1 := Scalar.cmpi .sge v8 c1_i32_387
  let v474 : BitVec 32 := Scalar.extui v473
  let c0_i32_388 : BitVec 32 := 0#32
  let v475 : BitVec 1 := Scalar.cmpi .ne v474 c0_i32_388
  v475

def k0_off27 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c0_i32_418 : BitVec 32 := 0#32
  let v522 : BitVec 32 := Scalar.subi v521 c0_i32_418
  let c2048_i32_422 : BitVec 32 := 2048#32
  let v527 : BitVec 32 := Scalar.muli v522 c2048_i32_422
  let c1_i32_423 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v528 : BitVec 32 := Scalar.subi c1_i32_423 v2
  let c1024_i32_424 : BitVec 32 := 1024#32
  let v529 : BitVec 32 := Scalar.muli v528 c1024_i32_424
  let v530 : BitVec 32 := Scalar.addi v527 v529
  let c0_i32_432 : BitVec 32 := 0#32
  ![v530.toNat, 0]
@[reducible] def k0_t9_loop : Scf.Loop 32 :=
  let c0_i32_437 : BitVec 32 := 0#32
  let c4_i32_438 : BitVec 32 := 4#32
  let v546 : BitVec 32 := Scalar.addi c0_i32_437 c4_i32_438
  let c1_i32_439 : BitVec 32 := 1#32
  ⟨c0_i32_437, v546, c1_i32_439⟩
def k0_off28 (d0 : Dev nD) (k0_t9 : Fin k0_t9_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c0_i32_418 : BitVec 32 := 0#32
  let v522 : BitVec 32 := Scalar.subi v521 c0_i32_418
  let c2048_i32_434 : BitVec 32 := 2048#32
  let v542 : BitVec 32 := Scalar.muli v522 c2048_i32_434
  let c1_i32_435 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v543 : BitVec 32 := Scalar.subi c1_i32_435 v2
  let c1024_i32_436 : BitVec 32 := 1024#32
  let v544 : BitVec 32 := Scalar.muli v543 c1024_i32_436
  let v545 : BitVec 32 := Scalar.addi v542 v544
  let c0_i32_437 : BitVec 32 := 0#32
  let c1_i32_439 : BitVec 32 := 1#32
  let arg24 : BitVec 32 := Scf.iv c0_i32_437 c1_i32_439 k0_t9
  let c256_i32_451 : BitVec 32 := 256#32
  let v558 : BitVec 32 := Scalar.muli arg24 c256_i32_451
  let v559 : BitVec 32 := Scalar.addi v545 v558
  let c0_i32_453 : BitVec 32 := 0#32
  ![v559.toNat, 0]
def k0_off29 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c0_i32_418 : BitVec 32 := 0#32
  let v522 : BitVec 32 := Scalar.subi v521 c0_i32_418
  let c2048_i32_441 : BitVec 32 := 2048#32
  let v547 : BitVec 32 := Scalar.muli v522 c2048_i32_441
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_442 : BitVec 32 := 1024#32
  let v548 : BitVec 32 := Scalar.muli v2 c1024_i32_442
  let v549 : BitVec 32 := Scalar.addi v547 v548
  let c0_i32_449 : BitVec 32 := 0#32
  ![v549.toNat, 0]
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_389 : BitVec 32 := 2#32
  let v476 : BitVec 1 := Scalar.cmpi .sle v8 c2_i32_389
  let v477 : BitVec 32 := Scalar.extui v476
  let c0_i32_390 : BitVec 32 := 0#32
  let v478 : BitVec 1 := Scalar.cmpi .ne v477 c0_i32_390
  v478

def k0_off30 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c0_i32_418 : BitVec 32 := 0#32
  let v522 : BitVec 32 := Scalar.addi v521 c0_i32_418
  let c2048_i32_422 : BitVec 32 := 2048#32
  let v527 : BitVec 32 := Scalar.muli v522 c2048_i32_422
  let c1_i32_423 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v528 : BitVec 32 := Scalar.subi c1_i32_423 v2
  let c1024_i32_424 : BitVec 32 := 1024#32
  let v529 : BitVec 32 := Scalar.muli v528 c1024_i32_424
  let v530 : BitVec 32 := Scalar.addi v527 v529
  let c0_i32_432 : BitVec 32 := 0#32
  ![v530.toNat, 0]
@[reducible] def k0_t10_loop : Scf.Loop 32 :=
  let c0_i32_437 : BitVec 32 := 0#32
  let c4_i32_438 : BitVec 32 := 4#32
  let v546 : BitVec 32 := Scalar.addi c0_i32_437 c4_i32_438
  let c1_i32_439 : BitVec 32 := 1#32
  ⟨c0_i32_437, v546, c1_i32_439⟩
def k0_off31 (d0 : Dev nD) (k0_t10 : Fin k0_t10_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c0_i32_418 : BitVec 32 := 0#32
  let v522 : BitVec 32 := Scalar.addi v521 c0_i32_418
  let c2048_i32_434 : BitVec 32 := 2048#32
  let v542 : BitVec 32 := Scalar.muli v522 c2048_i32_434
  let c1_i32_435 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v543 : BitVec 32 := Scalar.subi c1_i32_435 v2
  let c1024_i32_436 : BitVec 32 := 1024#32
  let v544 : BitVec 32 := Scalar.muli v543 c1024_i32_436
  let v545 : BitVec 32 := Scalar.addi v542 v544
  let c0_i32_437 : BitVec 32 := 0#32
  let c1_i32_439 : BitVec 32 := 1#32
  let arg24 : BitVec 32 := Scf.iv c0_i32_437 c1_i32_439 k0_t10
  let c256_i32_451 : BitVec 32 := 256#32
  let v558 : BitVec 32 := Scalar.muli arg24 c256_i32_451
  let v559 : BitVec 32 := Scalar.addi v545 v558
  let c0_i32_453 : BitVec 32 := 0#32
  ![v559.toNat, 0]
def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c0_i32_418 : BitVec 32 := 0#32
  let v522 : BitVec 32 := Scalar.addi v521 c0_i32_418
  let c2048_i32_441 : BitVec 32 := 2048#32
  let v547 : BitVec 32 := Scalar.muli v522 c2048_i32_441
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_442 : BitVec 32 := 1024#32
  let v548 : BitVec 32 := Scalar.muli v2 c1024_i32_442
  let v549 : BitVec 32 := Scalar.addi v547 v548
  let c0_i32_449 : BitVec 32 := 0#32
  ![v549.toNat, 0]
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_391 : BitVec 32 := 0#32
  let v479 : BitVec 1 := Scalar.cmpi .sge v8 c0_i32_391
  let c3_i32_392 : BitVec 32 := 3#32
  let v480 : BitVec 1 := Scalar.cmpi .slt v8 c3_i32_392
  let v481 : BitVec 1 := Scalar.andi v479 v480
  let v482 : BitVec 32 := Scalar.extui v481
  let c0_i32_393 : BitVec 32 := 0#32
  let v483 : BitVec 1 := Scalar.cmpi .ne v482 c0_i32_393
  v483

def k0_off33 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_417 : BitVec 32 := 0#32
  let v521 : BitVec 32 := Scalar.subi v8 c0_i32_417
  let c2048_i32_418 : BitVec 32 := 2048#32
  let v522 : BitVec 32 := Scalar.muli v521 c2048_i32_418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_419 : BitVec 32 := 1024#32
  let v523 : BitVec 32 := Scalar.muli v2 c1024_i32_419
  let v524 : BitVec 32 := Scalar.addi v522 v523
  let c0_i32_426 : BitVec 32 := 0#32
  ![v524.toNat, 0]
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_394 : BitVec 32 := 3#32
  let v484 : BitVec 1 := Scalar.cmpi .sle v8 c3_i32_394
  let c0_i32_395 : BitVec 32 := 0#32
  let v485 : BitVec 1 := Scalar.cmpi .sgt v8 c0_i32_395
  let v486 : BitVec 1 := Scalar.andi v484 v485
  let v487 : BitVec 32 := Scalar.extui v486
  let c0_i32_396 : BitVec 32 := 0#32
  let v488 : BitVec 1 := Scalar.cmpi .ne v487 c0_i32_396
  v488

def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_417 : BitVec 32 := 0#32
  let v521 : BitVec 32 := Scalar.addi v8 c0_i32_417
  let c2048_i32_418 : BitVec 32 := 2048#32
  let v522 : BitVec 32 := Scalar.muli v521 c2048_i32_418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_419 : BitVec 32 := 1024#32
  let v523 : BitVec 32 := Scalar.muli v2 c1024_i32_419
  let v524 : BitVec 32 := Scalar.addi v522 v523
  let c0_i32_425 : BitVec 32 := 0#32
  ![v524.toNat, 0]
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_397 : BitVec 32 := 2#32
  let v489 : BitVec 1 := Scalar.cmpi .sge v8 c2_i32_397
  let v490 : BitVec 32 := Scalar.extui v489
  let c0_i32_398 : BitVec 32 := 0#32
  let v491 : BitVec 1 := Scalar.cmpi .ne v490 c0_i32_398
  v491

def k0_off35 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c1_i32_418 : BitVec 32 := 1#32
  let v522 : BitVec 32 := Scalar.subi v521 c1_i32_418
  let c2048_i32_422 : BitVec 32 := 2048#32
  let v527 : BitVec 32 := Scalar.muli v522 c2048_i32_422
  let c1_i32_423 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v528 : BitVec 32 := Scalar.subi c1_i32_423 v2
  let c1024_i32_424 : BitVec 32 := 1024#32
  let v529 : BitVec 32 := Scalar.muli v528 c1024_i32_424
  let v530 : BitVec 32 := Scalar.addi v527 v529
  let c0_i32_432 : BitVec 32 := 0#32
  ![v530.toNat, 0]
@[reducible] def k0_t11_loop : Scf.Loop 32 :=
  let c0_i32_437 : BitVec 32 := 0#32
  let c4_i32_438 : BitVec 32 := 4#32
  let v546 : BitVec 32 := Scalar.addi c0_i32_437 c4_i32_438
  let c1_i32_439 : BitVec 32 := 1#32
  ⟨c0_i32_437, v546, c1_i32_439⟩
def k0_off36 (d0 : Dev nD) (k0_t11 : Fin k0_t11_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c1_i32_418 : BitVec 32 := 1#32
  let v522 : BitVec 32 := Scalar.subi v521 c1_i32_418
  let c2048_i32_434 : BitVec 32 := 2048#32
  let v542 : BitVec 32 := Scalar.muli v522 c2048_i32_434
  let c1_i32_435 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v543 : BitVec 32 := Scalar.subi c1_i32_435 v2
  let c1024_i32_436 : BitVec 32 := 1024#32
  let v544 : BitVec 32 := Scalar.muli v543 c1024_i32_436
  let v545 : BitVec 32 := Scalar.addi v542 v544
  let c0_i32_437 : BitVec 32 := 0#32
  let c1_i32_439 : BitVec 32 := 1#32
  let arg24 : BitVec 32 := Scf.iv c0_i32_437 c1_i32_439 k0_t11
  let c256_i32_451 : BitVec 32 := 256#32
  let v558 : BitVec 32 := Scalar.muli arg24 c256_i32_451
  let v559 : BitVec 32 := Scalar.addi v545 v558
  let c0_i32_453 : BitVec 32 := 0#32
  ![v559.toNat, 0]
def k0_off37 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c1_i32_418 : BitVec 32 := 1#32
  let v522 : BitVec 32 := Scalar.subi v521 c1_i32_418
  let c2048_i32_441 : BitVec 32 := 2048#32
  let v547 : BitVec 32 := Scalar.muli v522 c2048_i32_441
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_442 : BitVec 32 := 1024#32
  let v548 : BitVec 32 := Scalar.muli v2 c1024_i32_442
  let v549 : BitVec 32 := Scalar.addi v547 v548
  let c0_i32_449 : BitVec 32 := 0#32
  ![v549.toNat, 0]
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_399 : BitVec 32 := 1#32
  let v492 : BitVec 1 := Scalar.cmpi .sle v8 c1_i32_399
  let v493 : BitVec 32 := Scalar.extui v492
  let c0_i32_400 : BitVec 32 := 0#32
  let v494 : BitVec 1 := Scalar.cmpi .ne v493 c0_i32_400
  v494

def k0_off38 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c1_i32_418 : BitVec 32 := 1#32
  let v522 : BitVec 32 := Scalar.addi v521 c1_i32_418
  let c2048_i32_422 : BitVec 32 := 2048#32
  let v527 : BitVec 32 := Scalar.muli v522 c2048_i32_422
  let c1_i32_423 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v528 : BitVec 32 := Scalar.subi c1_i32_423 v2
  let c1024_i32_424 : BitVec 32 := 1024#32
  let v529 : BitVec 32 := Scalar.muli v528 c1024_i32_424
  let v530 : BitVec 32 := Scalar.addi v527 v529
  let c0_i32_432 : BitVec 32 := 0#32
  ![v530.toNat, 0]
@[reducible] def k0_t12_loop : Scf.Loop 32 :=
  let c0_i32_437 : BitVec 32 := 0#32
  let c4_i32_438 : BitVec 32 := 4#32
  let v546 : BitVec 32 := Scalar.addi c0_i32_437 c4_i32_438
  let c1_i32_439 : BitVec 32 := 1#32
  ⟨c0_i32_437, v546, c1_i32_439⟩
def k0_off39 (d0 : Dev nD) (k0_t12 : Fin k0_t12_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c1_i32_418 : BitVec 32 := 1#32
  let v522 : BitVec 32 := Scalar.addi v521 c1_i32_418
  let c2048_i32_434 : BitVec 32 := 2048#32
  let v542 : BitVec 32 := Scalar.muli v522 c2048_i32_434
  let c1_i32_435 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v543 : BitVec 32 := Scalar.subi c1_i32_435 v2
  let c1024_i32_436 : BitVec 32 := 1024#32
  let v544 : BitVec 32 := Scalar.muli v543 c1024_i32_436
  let v545 : BitVec 32 := Scalar.addi v542 v544
  let c0_i32_437 : BitVec 32 := 0#32
  let c1_i32_439 : BitVec 32 := 1#32
  let arg24 : BitVec 32 := Scf.iv c0_i32_437 c1_i32_439 k0_t12
  let c256_i32_451 : BitVec 32 := 256#32
  let v558 : BitVec 32 := Scalar.muli arg24 c256_i32_451
  let v559 : BitVec 32 := Scalar.addi v545 v558
  let c0_i32_453 : BitVec 32 := 0#32
  ![v559.toNat, 0]
def k0_off40 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c1_i32_418 : BitVec 32 := 1#32
  let v522 : BitVec 32 := Scalar.addi v521 c1_i32_418
  let c2048_i32_441 : BitVec 32 := 2048#32
  let v547 : BitVec 32 := Scalar.muli v522 c2048_i32_441
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_442 : BitVec 32 := 1024#32
  let v548 : BitVec 32 := Scalar.muli v2 c1024_i32_442
  let v549 : BitVec 32 := Scalar.addi v547 v548
  let c0_i32_449 : BitVec 32 := 0#32
  ![v549.toNat, 0]
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_401 : BitVec 32 := 1#32
  let v495 : BitVec 1 := Scalar.cmpi .sge v8 c1_i32_401
  let c3_i32_402 : BitVec 32 := 3#32
  let v496 : BitVec 1 := Scalar.cmpi .slt v8 c3_i32_402
  let v497 : BitVec 1 := Scalar.andi v495 v496
  let v498 : BitVec 32 := Scalar.extui v497
  let c0_i32_403 : BitVec 32 := 0#32
  let v499 : BitVec 1 := Scalar.cmpi .ne v498 c0_i32_403
  v499

def k0_off41 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c2048_i32_418 : BitVec 32 := 2048#32
  let v522 : BitVec 32 := Scalar.muli v521 c2048_i32_418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_419 : BitVec 32 := 1024#32
  let v523 : BitVec 32 := Scalar.muli v2 c1024_i32_419
  let v524 : BitVec 32 := Scalar.addi v522 v523
  let c0_i32_426 : BitVec 32 := 0#32
  ![v524.toNat, 0]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_404 : BitVec 32 := 2#32
  let v500 : BitVec 1 := Scalar.cmpi .sle v8 c2_i32_404
  let c0_i32_405 : BitVec 32 := 0#32
  let v501 : BitVec 1 := Scalar.cmpi .sgt v8 c0_i32_405
  let v502 : BitVec 1 := Scalar.andi v500 v501
  let v503 : BitVec 32 := Scalar.extui v502
  let c0_i32_406 : BitVec 32 := 0#32
  let v504 : BitVec 1 := Scalar.cmpi .ne v503 c0_i32_406
  v504

def k0_off42 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c2048_i32_418 : BitVec 32 := 2048#32
  let v522 : BitVec 32 := Scalar.muli v521 c2048_i32_418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_419 : BitVec 32 := 1024#32
  let v523 : BitVec 32 := Scalar.muli v2 c1024_i32_419
  let v524 : BitVec 32 := Scalar.addi v522 v523
  let c0_i32_425 : BitVec 32 := 0#32
  ![v524.toNat, 0]
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_407 : BitVec 32 := 3#32
  let v505 : BitVec 1 := Scalar.cmpi .sge v8 c3_i32_407
  let v506 : BitVec 32 := Scalar.extui v505
  let c0_i32_408 : BitVec 32 := 0#32
  let v507 : BitVec 1 := Scalar.cmpi .ne v506 c0_i32_408
  v507

def k0_off43 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c2_i32_418 : BitVec 32 := 2#32
  let v522 : BitVec 32 := Scalar.subi v521 c2_i32_418
  let c2048_i32_422 : BitVec 32 := 2048#32
  let v527 : BitVec 32 := Scalar.muli v522 c2048_i32_422
  let c1_i32_423 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v528 : BitVec 32 := Scalar.subi c1_i32_423 v2
  let c1024_i32_424 : BitVec 32 := 1024#32
  let v529 : BitVec 32 := Scalar.muli v528 c1024_i32_424
  let v530 : BitVec 32 := Scalar.addi v527 v529
  let c0_i32_431 : BitVec 32 := 0#32
  ![v530.toNat, 0]
@[reducible] def k0_t13_loop : Scf.Loop 32 :=
  let c0_i32_436 : BitVec 32 := 0#32
  let c4_i32_437 : BitVec 32 := 4#32
  let v546 : BitVec 32 := Scalar.addi c0_i32_436 c4_i32_437
  let c1_i32_438 : BitVec 32 := 1#32
  ⟨c0_i32_436, v546, c1_i32_438⟩
def k0_off44 (d0 : Dev nD) (k0_t13 : Fin k0_t13_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c2_i32_418 : BitVec 32 := 2#32
  let v522 : BitVec 32 := Scalar.subi v521 c2_i32_418
  let c2048_i32_433 : BitVec 32 := 2048#32
  let v542 : BitVec 32 := Scalar.muli v522 c2048_i32_433
  let c1_i32_434 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v543 : BitVec 32 := Scalar.subi c1_i32_434 v2
  let c1024_i32_435 : BitVec 32 := 1024#32
  let v544 : BitVec 32 := Scalar.muli v543 c1024_i32_435
  let v545 : BitVec 32 := Scalar.addi v542 v544
  let c0_i32_436 : BitVec 32 := 0#32
  let c1_i32_438 : BitVec 32 := 1#32
  let arg24 : BitVec 32 := Scf.iv c0_i32_436 c1_i32_438 k0_t13
  let c256_i32_450 : BitVec 32 := 256#32
  let v558 : BitVec 32 := Scalar.muli arg24 c256_i32_450
  let v559 : BitVec 32 := Scalar.addi v545 v558
  let c0_i32_452 : BitVec 32 := 0#32
  ![v559.toNat, 0]
def k0_off45 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.subi v8 c1_i32_417
  let c2_i32_418 : BitVec 32 := 2#32
  let v522 : BitVec 32 := Scalar.subi v521 c2_i32_418
  let c2048_i32_440 : BitVec 32 := 2048#32
  let v547 : BitVec 32 := Scalar.muli v522 c2048_i32_440
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_441 : BitVec 32 := 1024#32
  let v548 : BitVec 32 := Scalar.muli v2 c1024_i32_441
  let v549 : BitVec 32 := Scalar.addi v547 v548
  let c0_i32_448 : BitVec 32 := 0#32
  ![v549.toNat, 0]
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_409 : BitVec 32 := 0#32
  let v508 : BitVec 1 := Scalar.cmpi .sle v8 c0_i32_409
  let v509 : BitVec 32 := Scalar.extui v508
  let c0_i32_410 : BitVec 32 := 0#32
  let v510 : BitVec 1 := Scalar.cmpi .ne v509 c0_i32_410
  v510

def k0_off46 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c2_i32_418 : BitVec 32 := 2#32
  let v522 : BitVec 32 := Scalar.addi v521 c2_i32_418
  let c2048_i32_422 : BitVec 32 := 2048#32
  let v527 : BitVec 32 := Scalar.muli v522 c2048_i32_422
  let c1_i32_423 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v528 : BitVec 32 := Scalar.subi c1_i32_423 v2
  let c1024_i32_424 : BitVec 32 := 1024#32
  let v529 : BitVec 32 := Scalar.muli v528 c1024_i32_424
  let v530 : BitVec 32 := Scalar.addi v527 v529
  let c0_i32_431 : BitVec 32 := 0#32
  ![v530.toNat, 0]
@[reducible] def k0_t14_loop : Scf.Loop 32 :=
  let c0_i32_436 : BitVec 32 := 0#32
  let c4_i32_437 : BitVec 32 := 4#32
  let v546 : BitVec 32 := Scalar.addi c0_i32_436 c4_i32_437
  let c1_i32_438 : BitVec 32 := 1#32
  ⟨c0_i32_436, v546, c1_i32_438⟩
def k0_off47 (d0 : Dev nD) (k0_t14 : Fin k0_t14_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c2_i32_418 : BitVec 32 := 2#32
  let v522 : BitVec 32 := Scalar.addi v521 c2_i32_418
  let c2048_i32_433 : BitVec 32 := 2048#32
  let v542 : BitVec 32 := Scalar.muli v522 c2048_i32_433
  let c1_i32_434 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v543 : BitVec 32 := Scalar.subi c1_i32_434 v2
  let c1024_i32_435 : BitVec 32 := 1024#32
  let v544 : BitVec 32 := Scalar.muli v543 c1024_i32_435
  let v545 : BitVec 32 := Scalar.addi v542 v544
  let c0_i32_436 : BitVec 32 := 0#32
  let c1_i32_438 : BitVec 32 := 1#32
  let arg24 : BitVec 32 := Scf.iv c0_i32_436 c1_i32_438 k0_t14
  let c256_i32_450 : BitVec 32 := 256#32
  let v558 : BitVec 32 := Scalar.muli arg24 c256_i32_450
  let v559 : BitVec 32 := Scalar.addi v545 v558
  let c0_i32_452 : BitVec 32 := 0#32
  ![v559.toNat, 0]
def k0_off48 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v521 : BitVec 32 := Scalar.addi v8 c1_i32_417
  let c2_i32_418 : BitVec 32 := 2#32
  let v522 : BitVec 32 := Scalar.addi v521 c2_i32_418
  let c2048_i32_440 : BitVec 32 := 2048#32
  let v547 : BitVec 32 := Scalar.muli v522 c2048_i32_440
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_441 : BitVec 32 := 1024#32
  let v548 : BitVec 32 := Scalar.muli v2 c1024_i32_441
  let v549 : BitVec 32 := Scalar.addi v547 v548
  let c0_i32_448 : BitVec 32 := 0#32
  ![v549.toNat, 0]
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_411 : BitVec 32 := 2#32
  let v511 : BitVec 1 := Scalar.cmpi .sge v8 c2_i32_411
  let c3_i32_412 : BitVec 32 := 3#32
  let v512 : BitVec 1 := Scalar.cmpi .slt v8 c3_i32_412
  let v513 : BitVec 1 := Scalar.andi v511 v512
  let v514 : BitVec 32 := Scalar.extui v513
  let c0_i32_413 : BitVec 32 := 0#32
  let v515 : BitVec 1 := Scalar.cmpi .ne v514 c0_i32_413
  v515

def k0_off49 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_417 : BitVec 32 := 2#32
  let v521 : BitVec 32 := Scalar.subi v8 c2_i32_417
  let c2048_i32_418 : BitVec 32 := 2048#32
  let v522 : BitVec 32 := Scalar.muli v521 c2048_i32_418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_419 : BitVec 32 := 1024#32
  let v523 : BitVec 32 := Scalar.muli v2 c1024_i32_419
  let v524 : BitVec 32 := Scalar.addi v522 v523
  let c0_i32_426 : BitVec 32 := 0#32
  ![v524.toNat, 0]
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_414 : BitVec 32 := 1#32
  let v516 : BitVec 1 := Scalar.cmpi .sle v8 c1_i32_414
  let c0_i32_415 : BitVec 32 := 0#32
  let v517 : BitVec 1 := Scalar.cmpi .sgt v8 c0_i32_415
  let v518 : BitVec 1 := Scalar.andi v516 v517
  let v519 : BitVec 32 := Scalar.extui v518
  let c0_i32_416 : BitVec 32 := 0#32
  let v520 : BitVec 1 := Scalar.cmpi .ne v519 c0_i32_416
  v520

def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_417 : BitVec 32 := 2#32
  let v521 : BitVec 32 := Scalar.addi v8 c2_i32_417
  let c2048_i32_418 : BitVec 32 := 2048#32
  let v522 : BitVec 32 := Scalar.muli v521 c2048_i32_418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_419 : BitVec 32 := 1024#32
  let v523 : BitVec 32 := Scalar.muli v2 c1024_i32_419
  let v524 : BitVec 32 := Scalar.addi v522 v523
  let c0_i32_425 : BitVec 32 := 0#32
  ![v524.toNat, 0]
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x8192x2048 : Shape := ⟨3, ![4, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.KernelIdeal.Geo.lean ====
/-
# The mesh and the transfers of the kernel

The 32 devices form a mesh of 2 (axis `x`) by 4 (axis `y`) by 4 (axis `z`), device `16 x + 4 y + z`. Every transfer
between devices belongs to one of 19 KINDS, numbered by `Fin 19`: three partial-sum steps along `y` (0–2), three
gather steps along `y` (3–5), three forwards to `z + 1` (6–8), three forwards to `z - 1` (9–11) and seven exchanges
along `x` (12–18). This module says, kind by kind, which devices take part, who the peer is and which rows move, and
identifies the printed device numbers, offsets and conditions with these functions.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Norm

open Cert.KernelIdeal Cert.KernelIdeal.Gen
open Idealize.ShloMosaic

/-! ## Coordinates -/

/-- The device at given coordinates. -/
def mk (x y z : ℕ) : Dev nD := ⟨16 * (x % 2) + 4 * (y % 4) + z % 4, by
  have hx : x % 2 < 2 := Nat.mod_lt _ (by decide)
  have hy : y % 4 < 4 := Nat.mod_lt _ (by decide)
  have hz : z % 4 < 4 := Nat.mod_lt _ (by decide)
  show _ < 32
  omega⟩

/-- The three coordinates of a device. -/
abbrev cx (c : Dev nD) : ℕ := c.val / 16
abbrev cy (c : Dev nD) : ℕ := c.val / 4 % 4
abbrev cz (c : Dev nD) : ℕ := c.val % 4

/-- The device one step down, up the `y` axis; one step up, down the `z` axis; across the `x` axis. -/
def left (c : Dev nD) : Dev nD := mk (cx c) (cy c + 3) (cz c)
def right (c : Dev nD) : Dev nD := mk (cx c) (cy c + 1) (cz c)
def above (c : Dev nD) : Dev nD := mk (cx c) (cy c) (cz c + 1)
def below (c : Dev nD) : Dev nD := mk (cx c) (cy c) (cz c + 3)
def across (c : Dev nD) : Dev nD := mk (1 - cx c) (cy c) (cz c)

/-! ## The kinds of transfer -/

/-- The first row of the block that device `c` reduces and keeps: 1024 rows. -/
def base (c : Dev nD) : ℕ := 2048 * cz c + 1024 * cx c

/-- Whether device `c` sends a transfer of kind `k`. -/
def has (c : Dev nD) (k : Fin 19) : Bool :=
  if k.val < 6 then true
  else if k.val < 9 then decide (k.val - 6 ≤ cz c) && decide (cz c < 3)
  else if k.val < 12 then decide (0 < cz c) && decide (cz c + (k.val - 9) ≤ 3)
  else if k.val = 12 then true
  else if k.val % 2 = 1 then decide ((k.val - 13) / 2 + 1 ≤ cz c)
  else decide (cz c + (k.val - 14) / 2 + 1 ≤ 3)

/-- The device that a kind's transfer goes to, -/
def peer (c : Dev nD) (k : Fin 19) : Dev nD :=
  if k.val < 6 then right c else if k.val < 9 then above c else if k.val < 12 then below c else across c
/-- and the one it comes from. -/
def frm (c : Dev nD) (k : Fin 19) : Dev nD :=
  if k.val < 6 then left c else if k.val < 9 then below c else if k.val < 12 then above c else across c

/-- Whether device `c` receives a transfer of kind `k`. -/
def hasR (c : Dev nD) (k : Fin 19) : Bool := has (frm c k) k

/-- The first row that a kind's transfer out of device `c` moves (kinds from 3 on). -/
def sRow (c : Dev nD) (k : Fin 19) : ℕ :=
  if k.val < 3 then 0
  else if k.val < 6 then base c + 256 * ((cy c + 12 - k.val) % 4)
  else if k.val < 9 then 2048 * (cz c - (k.val - 6)) + 1024 * cx c
  else if k.val < 12 then 2048 * (cz c + (k.val - 9)) + 1024 * cx c
  else if k.val = 12 then base c
  else if k.val % 2 = 1 then 2048 * (cz c - 1 - (k.val - 13) / 2) + 1024 * cx c
  else 2048 * (cz c + 1 + (k.val - 14) / 2) + 1024 * cx c

/-- The number of rows it moves. -/
def nRow (k : Fin 19) : ℕ := if k.val < 6 then 256 else 1024

/-- The row that it lands at: the receiver keeps every row at its own place. -/
def rRow (c : Dev nD) (k : Fin 19) : ℕ := sRow (frm c k) k

theorem peer_frm (c : Dev nD) (k : Fin 19) : peer (frm c k) k = c := by revert c k; decide +kernel
theorem frm_peer (c : Dev nD) (k : Fin 19) : frm (peer c k) k = c := by revert c k; decide +kernel
theorem hasR_peer (c : Dev nD) (k : Fin 19) : hasR (peer c k) k = has c k := by unfold hasR; rw [frm_peer]
theorem rRow_peer (c : Dev nD) (k : Fin 19) : rRow (peer c k) k = sRow c k := by unfold rRow; rw [frm_peer]

/-! ## The printed device numbers -/

theorem dev1_eq (c : Dev nD) : (⟨k0_dev1 c, k0_dev1_lt c⟩ : Dev nD) = left c := by revert c; decide +kernel
theorem dev2_eq (c : Dev nD) : (⟨k0_dev2 c, k0_dev2_lt c⟩ : Dev nD) = right c := by revert c; decide +kernel
theorem dev3_eq (c : Dev nD) : (⟨k0_dev3 c, k0_dev3_lt c⟩ : Dev nD) = across c := by revert c; decide +kernel
theorem dev4_eq : ∀ (c : Dev nD) (h : k0_cond1 c = 1#1), (⟨k0_dev4 c, k0_dev4_lt c h⟩ : Dev nD) = below c := by decide +kernel
theorem dev5_eq : ∀ (c : Dev nD) (h : k0_cond2 c = 1#1), (⟨k0_dev5 c, k0_dev5_lt c h⟩ : Dev nD) = above c := by decide +kernel
theorem dev6_eq (c : Dev nD) : (⟨k0_dev6 c, k0_dev6_lt c⟩ : Dev nD) = peer c 0 := by revert c; decide +kernel
theorem dev7_eq (c : Dev nD) : (⟨k0_dev7 c, k0_dev7_lt c⟩ : Dev nD) = peer c 1 := by revert c; decide +kernel
theorem dev8_eq (c : Dev nD) : (⟨k0_dev8 c, k0_dev8_lt c⟩ : Dev nD) = peer c 2 := by revert c; decide +kernel
theorem dev9_eq (c : Dev nD) : (⟨k0_dev9 c, k0_dev9_lt c⟩ : Dev nD) = peer c 3 := by revert c; decide +kernel
theorem dev10_eq (c : Dev nD) : (⟨k0_dev10 c, k0_dev10_lt c⟩ : Dev nD) = peer c 4 := by revert c; decide +kernel
theorem dev11_eq (c : Dev nD) : (⟨k0_dev11 c, k0_dev11_lt c⟩ : Dev nD) = peer c 5 := by revert c; decide +kernel
theorem dev12_eq (c : Dev nD) : (⟨k0_dev12 c, k0_dev12_lt c⟩ : Dev nD) = peer c 12 := by revert c; decide +kernel
theorem dev13_eq : ∀ (c : Dev nD) (h : k0_cond5 c = 1#1), (⟨k0_dev13 c, k0_dev13_lt c h⟩ : Dev nD) = peer c 6 := by decide +kernel
theorem dev14_eq : ∀ (c : Dev nD) (h : k0_cond6 c = 1#1), (⟨k0_dev14 c, k0_dev14_lt c h⟩ : Dev nD) = peer c 9 := by decide +kernel
theorem dev15_eq : ∀ (c : Dev nD) (h : k0_cond7 c = 1#1), (⟨k0_dev15 c, k0_dev15_lt c h⟩ : Dev nD) = peer c 13 := by decide +kernel
theorem dev16_eq : ∀ (c : Dev nD) (h : k0_cond8 c = 1#1), (⟨k0_dev16 c, k0_dev16_lt c h⟩ : Dev nD) = peer c 14 := by decide +kernel
theorem dev17_eq : ∀ (c : Dev nD) (h : k0_cond9 c = 1#1), (⟨k0_dev17 c, k0_dev17_lt c h⟩ : Dev nD) = peer c 7 := by decide +kernel
theorem dev18_eq : ∀ (c : Dev nD) (h : k0_cond10 c = 1#1), (⟨k0_dev18 c, k0_dev18_lt c h⟩ : Dev nD) = peer c 10 := by decide +kernel
theorem dev19_eq : ∀ (c : Dev nD) (h : k0_cond13 c = 1#1), (⟨k0_dev19 c, k0_dev19_lt c h⟩ : Dev nD) = peer c 15 := by decide +kernel
theorem dev20_eq : ∀ (c : Dev nD) (h : k0_cond14 c = 1#1), (⟨k0_dev20 c, k0_dev20_lt c h⟩ : Dev nD) = peer c 16 := by decide +kernel
theorem dev21_eq : ∀ (c : Dev nD) (h : k0_cond15 c = 1#1), (⟨k0_dev21 c, k0_dev21_lt c h⟩ : Dev nD) = peer c 8 := by decide +kernel
theorem dev22_eq : ∀ (c : Dev nD) (h : k0_cond16 c = 1#1), (⟨k0_dev22 c, k0_dev22_lt c h⟩ : Dev nD) = peer c 11 := by decide +kernel
theorem dev23_eq : ∀ (c : Dev nD) (h : k0_cond19 c = 1#1), (⟨k0_dev23 c, k0_dev23_lt c h⟩ : Dev nD) = peer c 17 := by decide +kernel
theorem dev24_eq : ∀ (c : Dev nD) (h : k0_cond20 c = 1#1), (⟨k0_dev24 c, k0_dev24_lt c h⟩ : Dev nD) = peer c 18 := by decide +kernel

/-! ## The printed conditions -/

theorem cond1_iff (c : Dev nD) : k0_cond1 c = 1#1 ↔ decide (0 < cz c) = true := by revert c; decide +kernel
theorem cond2_iff (c : Dev nD) : k0_cond2 c = 1#1 ↔ decide (cz c < 3) = true := by revert c; decide +kernel
theorem cond5_iff (c : Dev nD) : k0_cond5 c = 1#1 ↔ has c 6 = true := by revert c; decide +kernel
theorem cond6_iff (c : Dev nD) : k0_cond6 c = 1#1 ↔ has c 9 = true := by revert c; decide +kernel
theorem cond7_iff (c : Dev nD) : k0_cond7 c = 1#1 ↔ has c 13 = true := by revert c; decide +kernel
theorem cond8_iff (c : Dev nD) : k0_cond8 c = 1#1 ↔ has c 14 = true := by revert c; decide +kernel
theorem cond9_iff (c : Dev nD) : k0_cond9 c = 1#1 ↔ has c 7 = true := by revert c; decide +kernel
theorem cond10_iff (c : Dev nD) : k0_cond10 c = 1#1 ↔ has c 10 = true := by revert c; decide +kernel
theorem cond11_iff (c : Dev nD) : k0_cond11 c = 1#1 ↔ has c 13 = true := by revert c; decide +kernel
theorem cond12_iff (c : Dev nD) : k0_cond12 c = 1#1 ↔ has c 14 = true := by revert c; decide +kernel
theorem cond13_iff (c : Dev nD) : k0_cond13 c = 1#1 ↔ has c 15 = true := by revert c; decide +kernel
theorem cond14_iff (c : Dev nD) : k0_cond14 c = 1#1 ↔ has c 16 = true := by revert c; decide +kernel
theorem cond15_iff (c : Dev nD) : k0_cond15 c = 1#1 ↔ has c 8 = true := by revert c; decide +kernel
theorem cond16_iff (c : Dev nD) : k0_cond16 c = 1#1 ↔ has c 11 = true := by revert c; decide +kernel
theorem cond17_iff (c : Dev nD) : k0_cond17 c = 1#1 ↔ has c 15 = true := by revert c; decide +kernel
theorem cond18_iff (c : Dev nD) : k0_cond18 c = 1#1 ↔ has c 16 = true := by revert c; decide +kernel
theorem cond19_iff (c : Dev nD) : k0_cond19 c = 1#1 ↔ has c 17 = true := by revert c; decide +kernel
theorem cond20_iff (c : Dev nD) : k0_cond20 c = 1#1 ↔ has c 18 = true := by revert c; decide +kernel
theorem cond21_iff (c : Dev nD) : k0_cond21 c = 1#1 ↔ has c 17 = true := by revert c; decide +kernel
theorem cond22_iff (c : Dev nD) : k0_cond22 c = 1#1 ↔ has c 18 = true := by revert c; decide +kernel
theorem cond23_iff (c : Dev nD) : k0_cond23 c = 1#1 ↔ has c 13 = true := by revert c; decide +kernel
theorem cond24_iff (c : Dev nD) : k0_cond24 c = 1#1 ↔ has c 14 = true := by revert c; decide +kernel
theorem cond25_iff (c : Dev nD) : k0_cond25 c = 1#1 ↔ has c 6 = true := by revert c; decide +kernel
theorem cond26_iff (c : Dev nD) : k0_cond26 c = 1#1 ↔ has c 9 = true := by revert c; decide +kernel
theorem cond27_iff (c : Dev nD) : k0_cond27 c = 1#1 ↔ has c 15 = true := by revert c; decide +kernel
theorem cond28_iff (c : Dev nD) : k0_cond28 c = 1#1 ↔ has c 16 = true := by revert c; decide +kernel
theorem cond29_iff (c : Dev nD) : k0_cond29 c = 1#1 ↔ has c 7 = true := by revert c; decide +kernel
theorem cond30_iff (c : Dev nD) : k0_cond30 c = 1#1 ↔ has c 10 = true := by revert c; decide +kernel
theorem cond31_iff (c : Dev nD) : k0_cond31 c = 1#1 ↔ has c 17 = true := by revert c; decide +kernel
theorem cond32_iff (c : Dev nD) : k0_cond32 c = 1#1 ↔ has c 18 = true := by revert c; decide +kernel
theorem cond33_iff (c : Dev nD) : k0_cond33 c = 1#1 ↔ has c 8 = true := by revert c; decide +kernel
theorem cond34_iff (c : Dev nD) : k0_cond34 c = 1#1 ↔ has c 11 = true := by revert c; decide +kernel

/-! ## The printed offsets

Those of the transfers that are sent: a transfer out of `c` of kind `k` moves rows from `sRow c k` on. -/

theorem off3_eq (c : Dev nD) : k0_off3 c = ![sRow c 3, 0] := by revert c; decide +kernel
theorem off4_eq0 (c : Dev nD) : k0_off4 c 0#32 = ![sRow c 3, 0] := by revert c; decide +kernel
theorem off4_eq1 (c : Dev nD) : k0_off4 c 1#32 = ![sRow c 4, 0] := by revert c; decide +kernel
theorem off4_eq2 (c : Dev nD) : k0_off4 c 2#32 = ![sRow c 5, 0] := by revert c; decide +kernel
theorem off5_eq (c : Dev nD) : k0_off5 c = ![sRow c 12, 0] := by revert c; decide +kernel
theorem off6_eq : ∀ (c : Dev nD), has c 6 = true → k0_off6 c = ![sRow c 6, 0] := by decide +kernel
theorem off7_eq : ∀ (c : Dev nD), has c 9 = true → k0_off7 c = ![sRow c 9, 0] := by decide +kernel
theorem off9_eq : ∀ (c : Dev nD), has c 13 = true → k0_off9 c = ![sRow c 13, 0] := by decide +kernel
theorem off10_eq : ∀ (c : Dev nD), has c 14 = true → k0_off10 c = ![sRow c 14, 0] := by decide +kernel
theorem off11_eq : ∀ (c : Dev nD), has c 7 = true → k0_off11 c = ![sRow c 7, 0] := by decide +kernel
theorem off12_eq : ∀ (c : Dev nD), has c 10 = true → k0_off12 c = ![sRow c 10, 0] := by decide +kernel
theorem off15_eq : ∀ (c : Dev nD), has c 15 = true → k0_off15 c = ![sRow c 15, 0] := by decide +kernel
theorem off16_eq : ∀ (c : Dev nD), has c 16 = true → k0_off16 c = ![sRow c 16, 0] := by decide +kernel
theorem off17_eq : ∀ (c : Dev nD), has c 8 = true → k0_off17 c = ![sRow c 8, 0] := by decide +kernel
theorem off18_eq : ∀ (c : Dev nD), has c 11 = true → k0_off18 c = ![sRow c 11, 0] := by decide +kernel
theorem off21_eq : ∀ (c : Dev nD), has c 17 = true → k0_off21 c = ![sRow c 17, 0] := by decide +kernel
theorem off22_eq : ∀ (c : Dev nD), has c 18 = true → k0_off22 c = ![sRow c 18, 0] := by decide +kernel

/-! Those of the normalization loops: trip `t` works on the 256 rows from `256 t` on of a block of 1024 rows. -/

theorem off8_eq (c : Dev nD) (t) : k0_off8 c t = ![sRow c 12 + 256 * t.val, 0] := by revert c t; decide +kernel
theorem off13_eq : ∀ (c : Dev nD), has c 13 = true → ∀ t, k0_off13 c t = ![sRow c 13 + 256 * t.val, 0] := by decide +kernel
theorem off14_eq : ∀ (c : Dev nD), has c 14 = true → ∀ t, k0_off14 c t = ![sRow c 14 + 256 * t.val, 0] := by decide +kernel
theorem off19_eq : ∀ (c : Dev nD), has c 15 = true → ∀ t, k0_off19 c t = ![sRow c 15 + 256 * t.val, 0] := by decide +kernel
theorem off20_eq : ∀ (c : Dev nD), has c 16 = true → ∀ t, k0_off20 c t = ![sRow c 16 + 256 * t.val, 0] := by decide +kernel
theorem off23_eq : ∀ (c : Dev nD), has c 17 = true → ∀ t, k0_off23 c t = ![sRow c 17 + 256 * t.val, 0] := by decide +kernel
theorem off24_eq : ∀ (c : Dev nD), has c 18 = true → ∀ t, k0_off24 c t = ![sRow c 18 + 256 * t.val, 0] := by decide +kernel
theorem off26_eq (c : Dev nD) (t) : k0_off26 c t = ![rRow c 12 + 256 * t.val, 0] := by revert c t; decide +kernel
theorem off28_eq : ∀ (c : Dev nD), has c 13 = true → ∀ t, k0_off28 c t = ![rRow c 13 + 256 * t.val, 0] := by decide +kernel
theorem off31_eq : ∀ (c : Dev nD), has c 14 = true → ∀ t, k0_off31 c t = ![rRow c 14 + 256 * t.val, 0] := by decide +kernel
theorem off36_eq : ∀ (c : Dev nD), has c 15 = true → ∀ t, k0_off36 c t = ![rRow c 15 + 256 * t.val, 0] := by decide +kernel
theorem off39_eq : ∀ (c : Dev nD), has c 16 = true → ∀ t, k0_off39 c t = ![rRow c 16 + 256 * t.val, 0] := by decide +kernel
theorem off44_eq : ∀ (c : Dev nD), has c 17 = true → ∀ t, k0_off44 c t = ![rRow c 17 + 256 * t.val, 0] := by decide +kernel
theorem off47_eq : ∀ (c : Dev nD), has c 18 = true → ∀ t, k0_off47 c t = ![rRow c 18 + 256 * t.val, 0] := by decide +kernel

/-- The first row, in the device's own partial, of the chunk added at step `s` of the sum along `y`. -/
def pRow (c : Dev nD) (s : ℕ) : ℕ := base c + 256 * ((cy c + 4 - s) % 4)

theorem off1_eq (c : Dev nD) : k0_off1 c = ![0, pRow c 0, 0] := by revert c; decide +kernel
theorem off2_eq0 (c : Dev nD) : k0_off2 c 0#32 = ![0, pRow c 1, 0] := by revert c; decide +kernel
theorem off2_eq1 (c : Dev nD) : k0_off2 c 1#32 = ![0, pRow c 2, 0] := by revert c; decide +kernel
theorem off2_eq2 (c : Dev nD) : k0_off2 c 2#32 = ![0, pRow c 3, 0] := by revert c; decide +kernel

end Cert.KernelIdeal.Norm
-- ==== Proof.KernelIdeal.Proto.lean ====
/-
# The contents, the cells and the protocol

The values that the kernel computes, as functions of the launch memory; the semaphore cells; what each cell's raise
hands over; what every device owes at launch, and the levels that order the waits.
-/
module

public import proofs.«01_k».proof.Proof.KernelIdeal.Geo
public import Idealize.ShloMosaic.Lib.ValueLayout
public import Idealize.ShloMosaic.Lib.Transfers

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The resource algebra

The pipeline library's copy of the rounds' algebra; the kernel's own copy, its duties named by `Fin 5`; and the
counters of the transfers within a device. -/

abbrev UB : Type := URounds (GSem nD τ sig) (Fin 5)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (((Emb.inl : Emb UB (UB × Counters)).trans (Emb.inr : Emb (UB × Counters) UU)).trans
    (uEmb (nD := nD) (sig := sig) (Ix := Unit) (Val := Elt F) (Name := ℕ) (U := UU) (Lvl := ℕ)).toEmb)
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The buffers -/

abbrev pM : Memref sig .tc .hbm S1x8192x2048 .f32 := Memref.whole main_arg0
abbrev rsM : Memref sig .tc .hbm S8192x2048 .f32 := Memref.whole main_arg1
abbrev gM : Memref sig .tc .vmem S2048 .f32 := Memref.whole cc0_stg0_0
abbrev oM : Memref sig .tc .hbm S8192x2048 .f32 := Memref.whole main_v1_0
abbrev wM : Memref sig .tc .hbm S8192x2048 .bf16 := Memref.whole main_v1_1
abbrev rqM : Memref sig .tc .vmem S3x256x2048 .bf16 := Memref.whole cc0_scratch0
abbrev sbM : Memref sig .tc .vmem S2x256x2048 .bf16 := Memref.whole cc0_scratch1
abbrev xtM : Memref sig .tc .vmem S256x2048 .f32 := Memref.whole cc0_scratch2
abbrev nbM : Memref sig .tc .vmem S256x2048 .bf16 := Memref.whole cc0_scratch3
abbrev nrM : Memref sig .tc .vmem S256x2048 .f32 := Memref.whole cc0_scratch4
abbrev otM : Memref sig .tc .vmem S256x2048 .f32 := Memref.whole cc0_scratch5

theorem rq_inb (n : ℕ) : ∀ a, (![n % 3, 0, 0] : Fin 3 → ℕ) a + S1x256x2048.size a ≤ S3x256x2048.size a := by
  intro a
  have : n % 3 < 3 := Nat.mod_lt _ (by decide)
  fin_cases a
  · show n % 3 + 1 ≤ 3; omega
  · exact Nat.le_refl _
  · exact Nat.le_refl _
theorem sb_inb (n : ℕ) : ∀ a, (![n % 2, 0, 0] : Fin 3 → ℕ) a + S1x256x2048.size a ≤ S2x256x2048.size a := by
  intro a
  have : n % 2 < 2 := Nat.mod_lt _ (by decide)
  fin_cases a
  · show n % 2 + 1 ≤ 2; omega
  · exact Nat.le_refl _
  · exact Nat.le_refl _

/-- Slot `n` of the landing queue and half `n` of the send buffer, as rectangles, -/
abbrev rqR (n : ℕ) : Rect S3x256x2048 := Rect.unit (s := S3x256x2048) ![n % 3, 0, 0] S1x256x2048.size (rq_inb n)
abbrev sbR (n : ℕ) : Rect S2x256x2048 := Rect.unit (s := S2x256x2048) ![n % 2, 0, 0] S1x256x2048.size (sb_inb n)
/-- as slices, -/
abbrev rqS (n : ℕ) : Memref sig .tc .vmem S1x256x2048 .bf16 := rqM.slice (rqR n) (fun _ => rfl)
abbrev sbS (n : ℕ) : Memref sig .tc .vmem S1x256x2048 .bf16 := sbM.slice (sbR n) (fun _ => rfl)
/-- and with the leading unit axis dropped. -/
abbrev rqV (n : ℕ) : Memref sig .tc .vmem S256x2048 .bf16 := (rqS n).squeeze S256x2048 squeezes_S1x256x2048_S256x2048
abbrev sbV (n : ℕ) : Memref sig .tc .vmem S256x2048 .bf16 := (sbS n).squeeze S256x2048 squeezes_S1x256x2048_S256x2048

/-- The rows from `lo` on, `n` of them, of a buffer of 8192 rows. -/
def rows (lo n : ℕ) : Finset S8192x2048.Idx := Finset.univ.filter fun i => lo ≤ (i 0).val ∧ (i 0).val < lo + n

theorem mem_rows {lo n : ℕ} {i : S8192x2048.Idx} : i ∈ rows lo n ↔ lo ≤ (i 0).val ∧ (i 0).val < lo + n := by
  simp [rows]

/-! ## The contents -/

/-- The rows of device `c`'s partial added at step `s` of the sum along `y`. -/
def xch (c : Dev nD) (s : ℕ) : Vec F S256x2048 .f32 := fun j =>
  m ((c : Thread nD τ).loc main_arg0) (ix3 (0 : Fin 1) (⟨(pRow c s + (j 0).val) % 8192, Nat.mod_lt _ (by decide)⟩ : Fin 8192) (j 1))

/-- The running sums: what device `c` holds after step 0, 1, 2, 3. -/
def acc0 (c : Dev nD) : FVec F S1x256x2048 .bf16 := k0_pay15 (xch m c 0)
def acc1 (c : Dev nD) : FVec F S1x256x2048 .bf16 := k0_pay17 (k0_pay16 (xch m c 1) (acc0 m (left c)))
def acc2 (c : Dev nD) : FVec F S1x256x2048 .bf16 := k0_pay18 (xch m c 2) (acc1 m (left c))
def acc3 (c : Dev nD) : FVec F S1x256x2048 .bf16 := k0_pay19 (xch m c 3) (acc2 m (left c))

/-- What the sender of step `k` sends. -/
def acc (k : ℕ) (c : Dev nD) : FVec F S1x256x2048 .bf16 :=
  match k with | 0 => acc0 m c | 1 => acc1 m c | 2 => acc2 m c | _ => acc3 m c

/-- The reduced array, the same on every device: each chunk of 256 rows is the last running sum of the device that
    reduces it. -/
def Wfin : S8192x2048.Idx → Elt F .bf16 := fun i =>
  acc3 m (mk ((i 0).val / 1024) ((i 0).val / 256 + 3) ((i 0).val / 2048))
    (ix3 (0 : Fin 1) (⟨(i 0).val % 256, Nat.mod_lt _ (by decide)⟩ : Fin 256) (i 1))

/-- The 256 rows from `lo` on of an array of 8192. -/
def chunk {α : Type} (lo : ℕ) (f : S8192x2048.Idx → α) : S256x2048.Idx → α := fun j =>
  f (ix2 (⟨(lo + (j 0).val) % 8192, Nat.mod_lt _ (by decide)⟩ : Fin 8192) (j 1))

/-- The scale as device `c` holds it. -/
def gam (c : Dev nD) : FVec F S1x2048 .f32 := k0_pay20 (m ((c : Thread nD τ).loc main_arg2))

/-- A normalized chunk. -/
def nchunk (c : Dev nD) (lo : ℕ) : FVec F S256x2048 .f32 :=
  k0_pay1 (gam m c) (chunk lo (Wfin m)) (chunk lo (m ((c : Thread nD τ).loc main_arg1)))

/-- The result on device `c`, chunk by chunk. -/
def Ofin (c : Dev nD) : S8192x2048.Idx → Elt F .f32 := fun i =>
  nchunk m c (256 * ((i 0).val / 256)) (ix2 (⟨(i 0).val % 256, Nat.mod_lt _ (by decide)⟩ : Fin 256) (i 1))

/-! ## The cells -/

/-- The barrier semaphore. -/
abbrev barS : Sem sig := (SemArray.scalar (sig.barrier 0 rfl) : Sems sig S_).sem

/-- A kind's send and receive semaphores: the arrays lie one after the other, three entries each but the last two. -/
def sSem (k : Fin 19) : DmaSem sig := ⟨if k.val < 12 then 1 + 6 * (k.val / 3) + k.val % 3 else 13 + k.val, by
  have := k.isLt; show _ < 44; split <;> omega⟩
def rSem (k : Fin 19) : DmaSem sig := ⟨if k.val < 12 then 4 + 6 * (k.val / 3) + k.val % 3 else 20 + k.val, by
  have := k.isLt; show _ < 44; split <;> omega⟩

abbrev barC (c : Dev nD) : GSem nD τ sig := ((c : Thread nD τ), .reg barS)
abbrev sndC (c : Dev nD) (k : Fin 19) : GSem nD τ sig := ((c : Thread nD τ), .dma (sSem k))
abbrev rcvC (c : Dev nD) (k : Fin 19) : GSem nD τ sig := ((c : Thread nD τ), .dma (rSem k))

/-- What a semaphore is to the protocol: `inl k` the send, `inr k` the receive semaphore of kind `k`. -/
def role (s : DmaSem sig) : Option (Fin 19 ⊕ Fin 19) :=
  if s.val = 0 then none
  else if s.val < 25 then
    if h : 3 * ((s.val - 1) / 6) + (s.val - 1) % 3 < 19 then
      some (if (s.val - 1) % 6 < 3 then .inl ⟨_, h⟩ else .inr ⟨_, h⟩)
    else none
  else if h : s.val < 32 then some (.inl ⟨s.val - 13, by omega⟩)
  else if h : s.val < 39 then some (.inr ⟨s.val - 20, by omega⟩)
  else none

theorem role_sSem (k : Fin 19) : role (sSem k) = some (.inl k) := by revert k; decide
theorem role_rSem (k : Fin 19) : role (rSem k) = some (.inr k) := by revert k; decide

/-! ## The schedule -/

/-- The credit of a transfer of 256 rows, of 1024 rows. -/
abbrev N256 : ℕ := sig.dmaCredit .tc (Kind.table .tc .hbm) (main_v1_1 : Ref sig .tc).idx S256x2048 .bf16
abbrev N1024 : ℕ := sig.dmaCredit .tc (Kind.table .tc .hbm) (main_v1_1 : Ref sig .tc).idx S1024x2048 .bf16
def amt (k : Fin 19) : ℕ := if k.val < 6 then N256 else N1024
theorem N256_pos : 0 < N256 := sig.dmaCredit_pos _ _ _ _ _ (by decide)
theorem N1024_pos : 0 < N1024 := sig.dmaCredit_pos _ _ _ _ _ (by decide)
theorem amt_pos (k : Fin 19) : 0 < amt k := by unfold amt; split; exacts [N256_pos, N1024_pos]

/-- The duties of a barrier cell, by payer: 0 the device above on `y`, 1 the one below on `y`, 2 the one across on `x`,
    3 the one above on `z`, 4 the one below on `z`. The device that duty `d` of `c` is paid to: -/
def bpeer (c : Dev nD) (d : Fin 5) : Dev nD :=
  match d with | 0 => left c | 1 => right c | 2 => across c | 3 => below c | 4 => above c
/-- the device that pays duty `d` of `c`'s own barrier cell; -/
def bfrm (c : Dev nD) (d : Fin 5) : Dev nD :=
  match d with | 0 => right c | 1 => left c | 2 => across c | 3 => above c | 4 => below c
/-- whether `c` pays a duty `d`. -/
def hasB (c : Dev nD) (d : Fin 5) : Bool :=
  match d with | 3 => decide (0 < cz c) | 4 => decide (cz c < 3) | _ => true

theorem bfrm_bpeer (c : Dev nD) (d : Fin 5) : bfrm (bpeer c d) d = c := by revert c d; decide +kernel
theorem bpeer_bfrm (c : Dev nD) (d : Fin 5) : bpeer (bfrm c d) d = c := by revert c d; decide +kernel

/-- The duty with which the place of a kind's landing is handed over. -/
def grp (k : Fin 19) : Fin 5 := if k.val < 6 then 0 else if k.val < 9 then 3 else if k.val < 12 then 4 else 2

theorem hasB_of_has (c : Dev nD) (k : Fin 19) (h : has c k = true) : hasB (bfrm c (grp k)) (grp k) = true := by
  revert c k; decide +kernel
theorem bfrm_grp (c : Dev nD) (k : Fin 19) : bfrm c (grp k) = peer c k := by revert c k; decide +kernel

/-- The kinds that `e` sends whose landing place duty `d` of its barrier hands over. -/
def gset (e : Dev nD) (d : Fin 5) : Finset (Fin 19) := Finset.univ.filter fun k => grp k = d ∧ has e k = true

/-- The place at device `r` that a kind's transfer lands in, holding anything: a slot of the landing queue for the steps
    of the sum, rows of the reduced array for all others. -/
def landP (r : Dev nD) (k : Fin 19) : sProp 𝕄 :=
  if k.val < 3 then iprop(∃ f : Buf (Elt F) ((r : Thread nD τ).loc cc0_scratch0),
    ((r : Thread nD τ).loc cc0_scratch0) ↦[(rqS k.val).view.set]{fullShare} f)
  else iprop(∃ f : Buf (Elt F) ((r : Thread nD τ).loc main_v1_1),
    ((r : Thread nD τ).loc main_v1_1) ↦[rows (rRow r k) (nRow k)]{fullShare} f)

/-- What the barrier duty `d` of `e` hands over. -/
def barPay (e : Dev nD) (d : Fin 5) : sProp 𝕄 := bigSep (gset e d) fun k => landP (bfrm e d) k

/-- What a kind's landing at `r` hands over: the landed rows. -/
def recvPay (r : Dev nD) (k : Fin 19) : sProp 𝕄 :=
  if k.val < 3 then iprop(∃ f : Buf (Elt F) ((r : Thread nD τ).loc cc0_scratch0),
    ⌜(rqS k.val).view.read (Elt F) f = acc m k.val (left r)⌝
      ∗ ((r : Thread nD τ).loc cc0_scratch0) ↦[(rqS k.val).view.set]{fullShare} f)
  else iprop(((r : Thread nD τ).loc main_v1_1) ↦[rows (rRow r k) (nRow k)]{fullShare} Wfin m)

/-- What the end of a kind's transfer out of `c` hands back: the send buffer's half, where it was sent from. -/
def sendPay (c : Dev nD) (k : Fin 19) : sProp 𝕄 :=
  if k.val < 3 then iprop(∃ f : Buf (Elt F) ((c : Thread nD τ).loc cc0_scratch1),
    ((c : Thread nD τ).loc cc0_scratch1) ↦[(sbS k.val).view.set]{fullShare} f)
  else if k.val = 3 then iprop(∃ f : Buf (Elt F) ((c : Thread nD τ).loc cc0_scratch1),
    ((c : Thread nD τ).loc cc0_scratch1) ↦[(sbS 1).view.set]{fullShare.right} f)
  else iprop(emp)

/-- One round. A barrier cell has a duty of one unit for each device that signals it; a send or a receive cell the one
    duty of its transfer, where there is one. -/
def sched : Rounds.Schedule (GSem nD τ sig) (Fin 5) 𝕄 where
  duties g r := if r = 0 ∧ g.1.2 = .tc then
      (match g.2 with
        | .reg _ => Finset.univ.filter fun d => hasB (bfrm g.1.1 d) d = true
        | .dma s => match role s with
          | some (.inl k) => if has g.1.1 k = true then {0} else ∅
          | some (.inr k) => if hasR g.1.1 k = true then {0} else ∅
          | none => ∅)
    else ∅
  unitless _ := False
  amount g _ _ := match g.2 with
    | .reg _ => 1
    | .dma s => match role s with | some (.inl k) => amt k | some (.inr k) => amt k | none => 1
  payload g _ d := match g.2 with
    | .reg _ => barPay g.1.1 d
    | .dma s => match role s with
      | some (.inl k) => sendPay g.1.1 k
      | some (.inr k) => recvPay m g.1.1 k
      | none => iprop(emp)
  amount_pos g _ _ _ := by
    split
    · exact Nat.one_pos
    · split <;> first | exact amt_pos _ | exact Nat.one_pos

instance landP_storable (r : Dev nD) (k : Fin 19) : BI.Storable (upEmb : UEmb _ 𝕄) (landP (F := F) r k) := by
  unfold landP; split <;> infer_instance
instance barPay_storable (e : Dev nD) (d : Fin 5) : BI.Storable (upEmb : UEmb _ 𝕄) (barPay (F := F) e d) := by
  unfold barPay; infer_instance
instance recvPay_storable (r : Dev nD) (k : Fin 19) : BI.Storable (upEmb : UEmb _ 𝕄) (recvPay m r k) := by
  unfold recvPay; split <;> infer_instance
instance sendPay_storable (r : Dev nD) (k : Fin 19) : BI.Storable (upEmb : UEmb _ 𝕄) (sendPay (F := F) r k) := by
  unfold sendPay; (repeat' split) <;> infer_instance

instance sched_storable (g : GSem nD τ sig) (r : ℕ) (d : Fin 5) : BI.Storable (upEmb : UEmb _ 𝕄) ((sched m).payload g r d) := by
  dsimp only [sched]; (repeat' split) <;> infer_instance

theorem duties_bar (c : Dev nD) : (sched m).duties (barC c) 0 = Finset.univ.filter fun d => hasB (bfrm c d) d = true := by
  dsimp only [sched]; exact if_pos ⟨rfl, rfl⟩
theorem duties_snd (c : Dev nD) (k : Fin 19) : (sched m).duties (sndC c k) 0 = if has c k = true then {0} else ∅ := by
  dsimp only [sched]; rw [if_pos ⟨rfl, rfl⟩, role_sSem]
theorem duties_rcv (c : Dev nD) (k : Fin 19) : (sched m).duties (rcvC c k) 0 = if hasR c k = true then {0} else ∅ := by
  dsimp only [sched]; rw [if_pos ⟨rfl, rfl⟩, role_rSem]
theorem duties_later (g : GSem nD τ sig) : ∀ r, 1 ≤ r → (sched m).duties g r = ∅ :=
  fun r hr => by dsimp only [sched]; rw [if_neg fun h => by omega]

theorem amount_bar (c : Dev nD) (d : Fin 5) : (sched m).amount (barC c) 0 d = 1 := rfl
theorem amount_snd (c : Dev nD) (k : Fin 19) (d : Fin 5) : (sched m).amount (sndC c k) 0 d = amt k := by
  dsimp only [sched]; rw [role_sSem]
theorem amount_rcv (c : Dev nD) (k : Fin 19) (d : Fin 5) : (sched m).amount (rcvC c k) 0 d = amt k := by
  dsimp only [sched]; rw [role_rSem]
theorem payload_bar (c : Dev nD) (d : Fin 5) : (sched m).payload (barC c) 0 d = barPay c d := rfl
theorem payload_snd (c : Dev nD) (k : Fin 19) (d : Fin 5) : (sched m).payload (sndC c k) 0 d = sendPay c k := by
  dsimp only [sched]; rw [role_sSem]
theorem payload_rcv (c : Dev nD) (k : Fin 19) (d : Fin 5) : (sched m).payload (rcvC c k) 0 d = recvPay m c k := by
  dsimp only [sched]; rw [role_rSem]

theorem expect_snd {c : Dev nD} {k : Fin 19} (h : has c k = true) : (sched m).expect (sndC c k) 0 = amt k := by
  unfold Schedule.expect Schedule.amountOf; rw [duties_snd, if_pos h, Finset.sum_singleton, amount_snd]
theorem expect_rcv {c : Dev nD} {k : Fin 19} (h : hasR c k = true) : (sched m).expect (rcvC c k) 0 = amt k := by
  unfold Schedule.expect Schedule.amountOf; rw [duties_rcv, if_pos h, Finset.sum_singleton, amount_rcv]

/-- The number of units a barrier cell gets. -/
def barN (c : Dev nD) : ℕ := if cz c = 0 ∨ cz c = 3 then 4 else 5
theorem expect_bar (c : Dev nD) : (sched m).expect (barC c) 0 = barN c := by
  unfold Schedule.expect Schedule.amountOf
  rw [duties_bar, Finset.sum_congr rfl fun d _ => amount_bar m c d, Finset.sum_const, smul_eq_mul, Nat.mul_one]
  revert c; decide +kernel

/-! ## What a device owes, and the levels -/

/-- A raise that a device still owes: a barrier duty or a kind's landing. -/
inductive Ob where
  | bar (d : Fin 5)
  | xf (k : Fin 19)

/-- Whether `c` owes it at all; the cell it raises; by how much; -/
def Ob.has (c : Dev nD) : Ob → Bool | .bar d => hasB c d | .xf k => Norm.has c k
def Ob.cell (c : Dev nD) : Ob → GSem nD τ sig | .bar d => barC (bpeer c d) | .xf k => rcvC (peer c k) k
def Ob.amt : Ob → ℕ | .bar _ => 1 | .xf k => Norm.amt k

/-- the level of a kind's receive cell: the waits go up the levels. -/
def klev (k : Fin 19) : ℕ := if k.val < 9 then 2 + k.val else if k.val < 12 then k.val - 1 else 20
def Ob.lev : Ob → ℕ | .bar _ => 1 | .xf k => klev k

/-- The tally of a list of owed raises. -/
def owedL (c : Dev nD) (l : List Ob) : CellTallies nD τ sig Unit :=
  (l.map fun o => if o.has c = true then tallyAt (o.cell c) () o.amt else 0).sum

def L (g : GSem nD τ sig) : Finset Unit := if g.1.2 = .tc then {()} else ∅
def lv (g : GSem nD τ sig) (_ : Unit) : ℕ := match g.2 with
  | .reg _ => 1
  | .dma s => match role s with | some (.inr k) => klev k | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := rfl
theorem lv_snd (c : Dev nD) (k : Fin 19) : lv (sndC c k) () = 0 := by dsimp only [lv]; rw [role_sSem]
theorem lv_rcv (c : Dev nD) (k : Fin 19) : lv (rcvC c k) () = klev k := by dsimp only [lv]; rw [role_rSem]

theorem lv_cell (c : Dev nD) (o : Ob) : lv (o.cell c) () = o.lev := by
  cases o with
  | bar d => exact lv_bar _
  | xf k => exact lv_rcv _ k
theorem L_cell (c : Dev nD) (o : Ob) : L (o.cell c) = {()} := by cases o <;> exact L_tc _ _

theorem owedL_nil (c : Dev nD) : owedL c [] = 0 := rfl
theorem owedL_cons (c : Dev nD) (o : Ob) (l : List Ob) :
    owedL c (o :: l) = owedL c l + if o.has c = true then tallyAt (o.cell c) () o.amt else 0 := by
  unfold owedL; rw [List.map_cons, List.sum_cons, add_comm]
theorem owedL_cons_pos {c : Dev nD} {o : Ob} (h : o.has c = true) (l : List Ob) :
    owedL c (o :: l) = owedL c l + tallyAt (o.cell c) () o.amt := by rw [owedL_cons, if_pos h]
theorem owedL_cons_neg {c : Dev nD} {o : Ob} (h : ¬ o.has c = true) (l : List Ob) :
    owedL c (o :: l) = owedL c l := by rw [owedL_cons, if_neg h, add_zero]

theorem owedL_pos {c : Dev nD} {l : List Ob} {g : GSem nD τ sig} {u : Unit} (h : 0 < owedL c l g u) :
    ∃ o ∈ l, g = o.cell c := by
  induction l with
  | nil => exact absurd h (Nat.lt_irrefl 0)
  | cons o l ih =>
    by_cases ho : o.has c = true
    · rw [owedL_cons_pos ho, Pi.add_apply, Finsupp.add_apply, tallyAt_apply] at h
      by_cases hg : g = o.cell c ∧ u = ()
      · exact ⟨o, List.mem_cons_self, hg.1⟩
      · rw [if_neg hg, add_zero] at h
        obtain ⟨o', ho', he⟩ := ih h
        exact ⟨o', List.mem_cons_of_mem _ ho', he⟩
    · rw [owedL_cons_neg ho] at h
      obtain ⟨o', ho', he⟩ := ih h
      exact ⟨o', List.mem_cons_of_mem _ ho', he⟩

/-- A wait at a level below everything still owed. -/
theorem mayWait_of {c : Dev nD} {sm : SemLoc sig} {l : List Ob} (n : ℕ) (hs : lv ((c : Thread nD τ), sm) () ≤ n)
    (hl : ∀ o ∈ l, n < o.lev) : (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨o, -, rfl⟩ := owedL_pos hg; rw [L_cell]; exact Finset.mem_singleton_self _)
    (fun p hp => by rw [Finset.mem_singleton.mp hp]; exact hs)
    (fun g u hg => by obtain ⟨o, ho, rfl⟩ := owedL_pos hg; rw [show u = () from rfl, lv_cell]; exact hl o ho)

end Cert.KernelIdeal.Norm
-- ==== Proof.KernelIdeal.Views.lean ====
/-
# The slices of the buffers and what goes through them

The rows that a slice covers, what it reads and what a write through it leaves.
-/
module

public import proofs.«01_k».proof.Proof.KernelIdeal.Proto

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Rows of the large arrays -/

/-- A block of `n` rows from `lo` on, as a rectangle, lands row `j` at row `lo + j`. -/
theorem emb0 {lo n : ℕ} {off : Fin 2 → ℕ} (ho : off = ![lo, 0])
    (h : ∀ a, off a + (![n, 2048] : Fin 2 → ℕ) a ≤ S8192x2048.size a)
    (x : (Rect.unit (s := S8192x2048) off ![n, 2048] h).shape.Idx) :
    ((Rect.unit (s := S8192x2048) off ![n, 2048] h).emb x 0).val = lo + (x 0).val := by
  subst ho; rw [Rect.emb_apply]; exact congrArg (lo + ·) (Nat.one_mul _)
theorem emb1 {lo n : ℕ} {off : Fin 2 → ℕ} (ho : off = ![lo, 0])
    (h : ∀ a, off a + (![n, 2048] : Fin 2 → ℕ) a ≤ S8192x2048.size a)
    (x : (Rect.unit (s := S8192x2048) off ![n, 2048] h).shape.Idx) :
    ((Rect.unit (s := S8192x2048) off ![n, 2048] h).emb x 1).val = (x 1).val := by
  subst ho; rw [Rect.emb_apply]; exact (Nat.zero_add _).trans (Nat.one_mul _)

/-- The rows that the block covers. -/
theorem rect_rows {lo n : ℕ} {off : Fin 2 → ℕ} (ho : off = ![lo, 0])
    (h : ∀ a, off a + (![n, 2048] : Fin 2 → ℕ) a ≤ S8192x2048.size a) :
    (Rect.unit (s := S8192x2048) off ![n, 2048] h).set = rows lo n := by
  subst ho
  ext i
  rw [mem_rows, LoadRect.mem_set]
  constructor
  · intro hi
    obtain ⟨j, hj, he⟩ := hi 0
    have hj' : j < n := hj
    have he' : (i 0).val = lo + 1 * j := he
    omega
  · rintro ⟨h0, h1⟩ a
    match a with
    | ⟨0, _⟩ => exact ⟨(i 0).val - lo, show (i 0).val - lo < n by omega, show (i 0).val = lo + 1 * ((i 0).val - lo) by omega⟩
    | ⟨1, _⟩ => exact ⟨(i 1).val, (i 1).isLt, show (i 1).val = 0 + 1 * (i 1).val by omega⟩

theorem w_set {lo n : ℕ} {off : Fin 2 → ℕ} (ho : off = ![lo, 0])
    (h : ∀ a, off a + (![n, 2048] : Fin 2 → ℕ) a ≤ S8192x2048.size a) (hr) :
    (wM.slice (Rect.unit (s := S8192x2048) off ![n, 2048] h) hr).view.set = rows lo n :=
  (View.set_slice_whole _ _).trans (rect_rows ho h)
theorem rs_set {lo n : ℕ} {off : Fin 2 → ℕ} (ho : off = ![lo, 0])
    (h : ∀ a, off a + (![n, 2048] : Fin 2 → ℕ) a ≤ S8192x2048.size a) (hr) :
    (rsM.slice (Rect.unit (s := S8192x2048) off ![n, 2048] h) hr).view.set = rows lo n :=
  (View.set_slice_whole _ _).trans (rect_rows ho h)
theorem o_set {lo n : ℕ} {off : Fin 2 → ℕ} (ho : off = ![lo, 0])
    (h : ∀ a, off a + (![n, 2048] : Fin 2 → ℕ) a ≤ S8192x2048.size a) (hr) :
    (oM.slice (Rect.unit (s := S8192x2048) off ![n, 2048] h) hr).view.set = rows lo n :=
  (View.set_slice_whole _ _).trans (rect_rows ho h)

/-- What a chunk's slice reads. -/
theorem w_read {lo : ℕ} {off : Fin 2 → ℕ} (ho : off = ![lo, 0])
    (h : ∀ a, off a + (![256, 2048] : Fin 2 → ℕ) a ≤ S8192x2048.size a) (hr) (f : S8192x2048.Idx → Elt F .bf16) :
    (wM.slice (Rect.unit (s := S8192x2048) off ![256, 2048] h) hr).view.read (Elt F) f = chunk lo f := by
  have h0 : lo + 256 ≤ 8192 := by have := h 0; subst ho; exact this
  funext x
  show f _ = f _
  refine congrArg f ?_
  funext a
  refine Fin.ext ?_
  have hx : (x 0).val < 256 := (x 0).isLt
  fin_cases a
  · refine (emb0 ho h x).trans ?_
    show lo + (x 0).val = (lo + (x 0).val) % 8192
    exact (Nat.mod_eq_of_lt (by omega)).symm
  · exact emb1 ho h x
theorem rs_read {lo : ℕ} {off : Fin 2 → ℕ} (ho : off = ![lo, 0])
    (h : ∀ a, off a + (![256, 2048] : Fin 2 → ℕ) a ≤ S8192x2048.size a) (hr) (f : S8192x2048.Idx → Elt F .f32) :
    (rsM.slice (Rect.unit (s := S8192x2048) off ![256, 2048] h) hr).view.read (Elt F) f = chunk lo f := by
  have h0 : lo + 256 ≤ 8192 := by have := h 0; subst ho; exact this
  funext x
  show f _ = f _
  refine congrArg f ?_
  funext a
  refine Fin.ext ?_
  have hx : (x 0).val < 256 := (x 0).isLt
  fin_cases a
  · refine (emb0 ho h x).trans ?_
    show lo + (x 0).val = (lo + (x 0).val) % 8192
    exact (Nat.mod_eq_of_lt (by omega)).symm
  · exact emb1 ho h x

/-- What the slice of a partial reads: the rows added at step `s`. -/
theorem p_read {lo : ℕ} {off : Fin 3 → ℕ} (ho : off = ![0, lo, 0])
    (h : ∀ a, off a + S1x256x2048.size a ≤ S1x8192x2048.size a) (hr) (f : S1x8192x2048.Idx → Elt F .f32) :
    ((pM.slice (Rect.unit (s := S1x8192x2048) off S1x256x2048.size h) hr).squeeze S256x2048
      squeezes_S1x256x2048_S256x2048).view.read (Elt F) f
      = fun j => f (ix3 (0 : Fin 1) (⟨(lo + (j 0).val) % 8192, Nat.mod_lt _ (by decide)⟩ : Fin 8192) (j 1)) := by
  have h0 : lo + 256 ≤ 8192 := by have := h 1; subst ho; exact this
  subst ho
  funext j
  refine (congrFun (Memref.read_squeeze_slice (Val := Elt F) pM _ hr squeezes_S1x256x2048_S256x2048 shapeCasts_S1x256x2048_S256x2048 f) j).trans ?_
  have e := shapeCast_1ab_ab_apply (pM.view.readAt (Elt F) (Rect.unit (s := S1x8192x2048) ![0, lo, 0] S1x256x2048.size h).toLoadRect f)
    shapeCasts_S1x256x2048_S256x2048 (j 0) (j 1)
  refine (congrArg (shapeCast S256x2048 _ shapeCasts_S1x256x2048_S256x2048) (eq_ix2 (n0 := 256) (n1 := 2048) j)).trans (e.trans ?_)
  refine congrArg f ?_
  have hx : (j 0).val < 256 := (j 0).isLt
  funext a
  refine Fin.ext ?_
  match a with
  | ⟨0, _⟩ => rfl
  | ⟨1, _⟩ =>
    show lo + 1 * (j 0).val = (lo + (j 0).val) % 8192
    rw [Nat.one_mul]; exact (Nat.mod_eq_of_lt (by omega)).symm
  | ⟨2, _⟩ => show 0 + 1 * (j 1).val = (j 1).val; omega

/-! ## The landing queue and the send buffer -/

theorem rq_set (n : ℕ) : (rqS n).view.set = Finset.univ.filter fun i : S3x256x2048.Idx => (i 0).val = n % 3 := by
  refine (View.set_slice_whole _ _).trans ?_
  ext i
  rw [LoadRect.mem_set, Finset.mem_filter]
  constructor
  · intro hi
    obtain ⟨j, hj, he⟩ := hi 0
    have hj' : j < 1 := hj
    have he' : (i 0).val = n % 3 + 1 * j := he
    exact ⟨Finset.mem_univ _, by omega⟩
  · rintro ⟨-, h0⟩ a
    match a with
    | ⟨0, _⟩ => exact ⟨0, Nat.one_pos, h0⟩
    | ⟨1, _⟩ => exact ⟨(i 1).val, (i 1).isLt, show (i 1).val = 0 + 1 * (i 1).val by omega⟩
    | ⟨2, _⟩ => exact ⟨(i 2).val, (i 2).isLt, show (i 2).val = 0 + 1 * (i 2).val by omega⟩
theorem sb_set (n : ℕ) : (sbS n).view.set = Finset.univ.filter fun i : S2x256x2048.Idx => (i 0).val = n % 2 := by
  refine (View.set_slice_whole _ _).trans ?_
  ext i
  rw [LoadRect.mem_set, Finset.mem_filter]
  constructor
  · intro hi
    obtain ⟨j, hj, he⟩ := hi 0
    have hj' : j < 1 := hj
    have he' : (i 0).val = n % 2 + 1 * j := he
    exact ⟨Finset.mem_univ _, by omega⟩
  · rintro ⟨-, h0⟩ a
    match a with
    | ⟨0, _⟩ => exact ⟨0, Nat.one_pos, h0⟩
    | ⟨1, _⟩ => exact ⟨(i 1).val, (i 1).isLt, show (i 1).val = 0 + 1 * (i 1).val by omega⟩
    | ⟨2, _⟩ => exact ⟨(i 2).val, (i 2).isLt, show (i 2).val = 0 + 1 * (i 2).val by omega⟩

/-- A write of what a view reads off `g` leaves `g` on the view. -/
theorem write_on {sp : Space} {s : Shape} {e : EltTy} (v : View sig .tc sp s e)
    (f g : v.ty.Contents (Elt F)) (w : s.Idx → Elt F e) (hw : ∀ x, w x = v.read (Elt F) g x) :
    ∀ i ∈ v.set, v.write (Elt F) f w Finset.univ i = g i := by
  intro i hi
  obtain ⟨x, -, rfl⟩ := Finset.mem_map.mp hi
  rw [View.write_emb_of_mem _ _ (Finset.mem_univ _), hw, View.read_apply, cast_cast, cast_eq]

end Cert.KernelIdeal.Norm
-- ==== Proof.KernelIdeal.Ops.lean ====
/-
# The steps that the kernel is made of

A transfer's start and its two waits, a local copy, and a step under a condition, each stated once for every kind of
transfer.
-/
module

public import proofs.«01_k».proof.Proof.KernelIdeal.Views

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ
local notation "𝕋" => TpuEff nD τ sig (Elt F) Λ₀ (Proc.tc : Proc τ)

variable (m : (ℓ : Loc nD τ sig) → Buf (Elt F) ℓ)

abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program followed by another. -/
theorem wp_seq (c : Dev nD) {α β : Type} {p : Prog 𝕋 α} {f : α → Prog 𝕋 β} {P : sProp 𝕄} {R : α → sProp 𝕄}
    {Q : β → sProp 𝕄} (h : P ⊢ WP c p R) : P ⊢ iprop((∀ x, R x -∗ WP c (f x) Q) -∗ WP c (p >>= f) Q) := by
  rw [show WP c (p >>= f) Q = WP c p (fun x => WP c (f x) Q) from wp_bind ..]
  iintro HP Hk
  iapply (wp_wand_r frame (wpE (defs₀ (F := F)) 𝒱₀ (c : Thread nD τ) none) Set.univ)
  isplitl [HP]
  · iapply h $$ HP
  · iexact Hk

theorem WP_ret (c : Dev nD) {α : Type} {a : α} {Q : α → sProp 𝕄} : Q a ⊢ WP c (Prog.ret a) Q := by
  rw [show WP c (Prog.ret a) Q = iprop(|={Set.univ}=> Q a) from wp_ret ..]
  iintro H
  imodintro
  iexact H

/-! ## Under a condition -/

/-- `P` where `b` holds. -/
def when (b : Bool) (P : sProp 𝕄) : sProp 𝕄 := if b = true then P else iprop(emp)
theorem when_pos {b : Bool} (h : b = true) (P : sProp 𝕄) : when b P = P := if_pos h
theorem when_neg {b : Bool} (h : ¬ b = true) (P : sProp 𝕄) : when b P = iprop(emp) := if_neg h

/-- A step under a condition leads to `R` if it does where the condition holds and `P` already is `R` where it does not. -/
theorem wp_guard (c : Dev nD) {cond : Prop} [Decidable cond] {b : Bool} (hb : cond ↔ b = true) {α : Type} {P R : sProp 𝕄}
    {A : cond → Prog 𝕋 α} {k : Prog 𝕋 α} {Q : α → sProp 𝕄}
    (h1 : ∀ h : cond, b = true → P ⊢ iprop((R -∗ WP c k Q) -∗ WP c (A h) Q)) (h2 : ¬ b = true → P ⊢ R) :
    P ⊢ iprop((R -∗ WP c k Q) -∗ WP c (if h : cond then A h else k) Q) := by
  by_cases h : cond
  · rw [dif_pos h]; exact h1 h (hb.mp h)
  · rw [dif_neg h]
    have := h2 (fun hb' => h (hb.mpr hb'))
    iintro HP Hk
    iapply Hk
    iapply this $$ HP

/-! ## The records -/

/-- The cells, a barrier's and two for each kind on every device. -/
def cellAt (p : Dev nD × Option (Fin 19 ⊕ Fin 19)) : GSem nD τ sig :=
  match p.2 with | none => barC p.1 | some (.inl k) => sndC p.1 k | some (.inr k) => rcvC p.1 k

/-- Every cell's invariant, with its first round open; and the levels. -/
def records (K : Dev nD × Option (Fin 19 ⊕ Fin 19) → ℕ) : sProp 𝕄 :=
  bigSep Finset.univ fun p => iprop(cellInv ER (sched m) (K p) (cellAt p) ∗ reached ER (cellAt p) 0)
instance records_persistent (K) : BI.Persistent (records m K) := by unfold records; infer_instance

def ctx (K : Dev nD × Option (Fin 19 ⊕ Fin 19) → ℕ) : sProp 𝕄 := iprop(records m K ∗ levAts L lv)
instance ctx_persistent (K) : BI.Persistent (ctx m K) := by unfold ctx; infer_instance

variable (K : Dev nD × Option (Fin 19 ⊕ Fin 19) → ℕ)

theorem records_at (p : Dev nD × Option (Fin 19 ⊕ Fin 19)) :
    records m K ⊢ iprop(cellInv ER (sched m) (K p) (cellAt p) ∗ reached ER (cellAt p) 0) := bigSep_elim (Finset.mem_univ p)
theorem ctx_at (p : Dev nD × Option (Fin 19 ⊕ Fin 19)) :
    ctx m K ⊢ iprop(cellInv ER (sched m) (K p) (cellAt p) ∗ reached ER (cellAt p) 0) := by
  unfold ctx
  iintro ⟨H, -⟩
  iapply (records_at m K p) $$ H
theorem ctx_snd (c : Dev nD) (k : Fin 19) :
    ctx m K ⊢ iprop(cellInv ER (sched m) (K (c, some (.inl k))) (sndC c k) ∗ reached ER (sndC c k) 0) := ctx_at m K (c, some (.inl k))
theorem ctx_rcv (c : Dev nD) (k : Fin 19) :
    ctx m K ⊢ iprop(cellInv ER (sched m) (K (c, some (.inr k))) (rcvC c k) ∗ reached ER (rcvC c k) 0) := ctx_at m K (c, some (.inr k))
theorem ctx_bar (c : Dev nD) :
    ctx m K ⊢ iprop(cellInv ER (sched m) (K (c, none)) (barC c) ∗ reached ER (barC c) 0) := ctx_at m K (c, none)
theorem ctx_mayWait {c : Dev nD} {sm : SemLoc sig} {l : List Ob} (n : ℕ) (hs : lv ((c : Thread nD τ), sm) () ≤ n)
    (hl : ∀ o ∈ l, n < o.lev) : ctx m K ⊢ MayWait (c : Thread nD τ) sm () (owedL c l) := by
  unfold ctx
  iintro ⟨-, H⟩
  iapply (mayWait_of n hs hl); iexact H

/-- What device `c` owes. -/
def OW (c : Dev nD) (l : List Ob) : sProp 𝕄 := iprop(∃ W, owes (c : Thread nD τ) (owedL c l) W)

theorem OW_skip {c : Dev nD} {o : Ob} (h : ¬ o.has c = true) (l : List Ob) : (OW c (o :: l) : sProp 𝕄) = OW c l := by
  unfold OW; rw [owedL_cons_neg h]

theorem lev_pos (o : Ob) : 0 < o.lev := by
  cases o with
  | bar d => exact Nat.one_pos
  | xf k => show 0 < klev k; revert k; decide

/-! ## The states of a transfer -/

/-- Rows of the reduced array, at their final contents. -/
def wP (c : Dev nD) (q : PosShare TreeShare) (lo n : ℕ) : sProp 𝕄 :=
  ((c : Thread nD τ).loc main_v1_1) ↦[rows lo n]{q} Wfin m

def toks (c : Dev nD) (k : Fin 19) : sProp 𝕄 := iprop(dutyTok ER (sndC c k) 0 0 ∗ dutyTok ER (rcvC (peer c k) k) 0 0)

/-- The sending side: before the start, in flight. -/
def sA (c : Dev nD) (k : Fin 19) : sProp 𝕄 := if has c k = true then atPos ER (sndC c k) 0 ∅ 0 else semVal (sndC c k) 0
def snd0 (c : Dev nD) (k : Fin 19) : sProp 𝕄 := iprop(when (has c k) iprop(toks c k ∗ landP (peer c k) k) ∗ sA c k)
def snd1 (c : Dev nD) (k : Fin 19) : sProp 𝕄 :=
  if has c k = true then iprop(atPos ER (sndC c k) 0 ∅ 0 ∗ cred (tallyAt (sndC c k) () (amt k))) else semVal (sndC c k) 0
def snd2 (c : Dev nD) (k : Fin 19) : sProp 𝕄 := iprop(semVal (sndC c k) 0 ∗ when (has c k) (sendPay c k))

/-- The receiving side: before the landing, after the wait. -/
def rcv0 (c : Dev nD) (k : Fin 19) : sProp 𝕄 :=
  if hasR c k = true then iprop(atPos ER (rcvC c k) 0 ∅ 0 ∗ cred (tallyAt (rcvC c k) () (amt k))) else semVal (rcvC c k) 0
def rcv1 (c : Dev nD) (k : Fin 19) : sProp 𝕄 := iprop(semVal (rcvC c k) 0 ∗ when (hasR c k) (recvPay m c k))

theorem snd1_skip {c : Dev nD} {k : Fin 19} (h : ¬ has c k = true) : (snd0 c k : sProp 𝕄) ⊢ snd1 c k := by
  unfold snd0 snd1 sA; rw [if_neg h, if_neg h]; iintro ⟨-, H⟩; iexact H
theorem snd2_skip {c : Dev nD} {k : Fin 19} (h : ¬ has c k = true) : (snd1 c k : sProp 𝕄) ⊢ snd2 c k := by
  unfold snd1 snd2; rw [if_neg h, when_neg h]; iintro H; isplitl [H]; · iexact H
  iempintro
theorem rcv1_skip {c : Dev nD} {k : Fin 19} (h : ¬ hasR c k = true) : rcv0 c k ⊢ rcv1 m c k := by
  unfold rcv0 rcv1; rw [if_neg h, when_neg h]; iintro H; isplitl [H]; · iexact H
  iempintro

theorem has_peer_rcv {c : Dev nD} {k : Fin 19} (h : has c k = true) : hasR (peer c k) k = true := by rw [hasR_peer]; exact h

/-! ## Starting and waiting -/

theorem rest_snd {c : Dev nD} {k : Fin 19} (hk : has c k = true) :
    bigSep ((sched m).duties (sndC c k) 0 \ ∅) (fun d => (sched m).payload (sndC c k) 0 d) = sendPay c k := by
  rw [Finset.sdiff_empty, duties_snd, if_pos hk, bigSep_singleton, payload_snd]
theorem rest_rcv {c : Dev nD} {k : Fin 19} (hk : hasR c k = true) :
    bigSep ((sched m).duties (rcvC c k) 0 \ ∅) (fun d => (sched m).payload (rcvC c k) 0 d) = recvPay m c k := by
  rw [Finset.sdiff_empty, duties_rcv, if_pos hk, bigSep_singleton, payload_rcv]

/-- The start of a transfer of kind `k`, to the device that the kind goes to. -/
theorem wp_start (c n : Dev nD) (k : Fin 19) (hn : n = peer c k) (hk : has c k = true) {l : List Ob}
    {sp sp' : Space} {s : Shape} {e : EltTy} {src : Memref sig .tc sp s e}
    {dst : Memref sig (Dev.tc n : Thread nD τ).2.kind sp' s e} {hsc : dst.view.ref.isScScratch = false}
    {sS sR : DmaSem sig} (hS : sS = sSem k) (hR : sR = rSem k)
    {hsrc : src.view.WordExact} {hdst : dst.view.WordExact}
    {hsem : DmaTarget.Typed sp (.dma sR) (.remote (Dev.tc n : Thread nD τ) dst (.dma sS) hsc)}
    {α : Type} {kk : PUnit → Prog 𝕋 α} {Q : α → sProp 𝕄}
    {q : PosShare TreeShare} {fs : Buf (Elt F) (src.view.loc (c : Thread nD τ))}
    {fd : Buf (Elt F) (dst.view.loc (Dev.tc n : Thread nD τ))}
    (hN : dst.view.amount (SemLoc.dma sR) = amt k)
    (hpay₁ : (src.view.loc (c : Thread nD τ) ↦[src.view.set]{q} fs) ⊢ sendPay (F := F) c k)
    (hpay₂ : (dst.view.loc (Dev.tc n : Thread nD τ)
        ↦[dst.view.set]{fullShare} (dst.view.write (Elt F) fd (src.view.read (Elt F) fs) Finset.univ)) ⊢ recvPay m n k) :
    iprop(ctx m K ∗ (src.view.loc (c : Thread nD τ) ↦[src.view.set]{q} fs)
        ∗ (dst.view.loc (Dev.tc n : Thread nD τ) ↦[dst.view.set]{fullShare} fd) ∗ toks c k ∗ sA c k ∗ OW c (.xf k :: l))
      ⊢ iprop(((snd1 c k ∗ OW c l) -∗ WP c (kk ⟨⟩) Q)
          -∗ WP c (.op (.enqueueDma src (.remote (Dev.tc n : Thread nD τ) dst (.dma sS) hsc) (.dma sR) hsrc hdst hsem) kk) Q) := by
  subst hS hR
  have hO : owedL c (Ob.xf k :: l) = owedL c l + tallyAt (rcvC n k) () (amt k) := by
    rw [owedL_cons_pos (o := .xf k) hk, hn]; rfl
  unfold toks sA OW snd1
  rw [if_pos hk, if_pos hk, ← hn, hO]
  iintro ⟨#Hx, Hs, Hd, ⟨T1, T2⟩, HA, ⟨%W, HO⟩⟩ Hk
  ihave #HS := (ctx_snd m K c k) $$ Hx
  ihave #HR := (ctx_rcv m K n k) $$ Hx
  icases HS with ⟨#I1, #R1⟩
  icases HR with ⟨#I2, #R2⟩
  iapply (Rounds.wp_send_pointsTo 𝒱₀ (ER : Emb UB 𝕄) (sched m) (c : Thread nD τ) none
    (κ₁ := K (c, some (.inl k))) (κ₂ := K (n, some (.inr k))) (r₁ := 0) (r₂ := 0) (d₁ := 0) (d₂ := 0)
    (by rw [duties_snd, if_pos hk]; exact Finset.mem_singleton_self _)
    (by rw [show ((Dev.tc n : Thread nD τ), SemLoc.dma (rSem k)) = rcvC n k from rfl, duties_rcv,
          if_pos (by rw [hn]; exact has_peer_rcv hk)]; exact Finset.mem_singleton_self _)
    () () (amt k) hN (amount_snd m c k 0) (amount_rcv m n k 0) (owedL c l) rfl (W := W)
    (by rw [payload_snd]; exact hpay₁)
    (by rw [show ((Dev.tc n : Thread nD τ), SemLoc.dma (rSem k)) = rcvC n k from rfl, payload_rcv]; exact hpay₂))
    $$ [Hs Hd T1 T2 HO]
  · iframe
    iframe I1 I2 R1 R2
  · iintro ⟨HC, HO⟩
    iapply Hk
    isplitl [HA HC]
    · isplitl [HA] <;> iassumption
    · iexists W; iexact HO

/-- The wait for the end of a transfer out of `c`. -/
theorem wp_waitS (c : Dev nD) (k : Fin 19) (hk : has c k = true) {l : List Ob}
    {sp sp' : Space} {s s' : Shape} {e e' : EltTy} {κ' : Kind} {srcw : Memref sig .tc sp' s' e'} {dstw : Memref sig κ' sp s e}
    {hsrc : srcw.view.WordExact} {hdst : dstw.view.WordExact} {sm : DmaSem sig} (hS : sm = sSem k)
    {α : Type} {kk : PUnit → Prog 𝕋 α} {Q : α → sProp 𝕄} (hN : dstw.view.dmaCredit = amt k) :
    iprop(ctx m K ∗ snd1 c k ∗ OW c l)
      ⊢ iprop(((snd2 c k ∗ OW c l) -∗ WP c (kk ⟨⟩) Q) -∗ WP c (.op (.waitDma2 sm srcw dstw hsrc hdst) kk) Q) := by
  subst hS
  unfold snd1 snd2 OW
  rw [if_pos hk, when_pos hk]
  iintro ⟨#Hx, ⟨HA, HC⟩, ⟨%W, HO⟩⟩ Hk
  ihave #HS := (ctx_snd m K c k) $$ Hx
  icases HS with ⟨#I1, #R1⟩
  iapply (Rounds.wp_wait_rest_token 𝒱₀ (ER : Emb UB 𝕄) (sched m) (c : Thread nD τ) none
    (κ := K (c, some (.inl k))) (wpE_waitDma2_eq 𝒱₀ (c : Thread nD τ) none Set.univ) (Set.mem_univ _) () (O := owedL c l) (W := W)
    (R := 0) (m := 0) (T := ∅) (by rw [Nat.zero_add, expect_snd m hk, hN])) $$ [HA HC HO]
  · rw [hN]
    iframe HA HC HO I1
    iapply (ctx_mayWait m K 0 (le_of_eq (lv_snd c k)) fun o _ => lev_pos o) $$ Hx
  · iintro ⟨HO, HA, -, HP⟩
    ihave HP := (Entails.of_eq (rest_snd m hk)) $$ HP
    imod (Rounds.cell_close (ER : Emb UB 𝕄) (sched m) (Set.mem_univ (K (c, some (.inl k)))) (fun h => h) (R := 0 + 1)
      (duties_later m (sndC c k))) $$ [HA] with HV
    · isplitr; · iexact I1
      iexact HA
    iapply Hk
    isplitl [HV HP]
    · isplitl [HV] <;> iassumption
    · iexists _; iexact HO

/-- The wait for a landing at `c`, of a level below everything that `c` still owes. -/
theorem wp_waitR (c : Dev nD) (k : Fin 19) (hk : hasR c k = true) {l : List Ob} (hl : ∀ o ∈ l, klev k < o.lev)
    {sp sp' : Space} {s s' : Shape} {e e' : EltTy} {κ' : Kind} {srcw : Memref sig .tc sp' s' e'} {dstw : Memref sig κ' sp s e}
    {hsrc : srcw.view.WordExact} {hdst : dstw.view.WordExact} {sm : DmaSem sig} (hS : sm = rSem k)
    {α : Type} {kk : PUnit → Prog 𝕋 α} {Q : α → sProp 𝕄} (hN : dstw.view.dmaCredit = amt k) :
    iprop(ctx m K ∗ rcv0 c k ∗ OW c l)
      ⊢ iprop(((rcv1 m c k ∗ OW c l) -∗ WP c (kk ⟨⟩) Q) -∗ WP c (.op (.waitDma2 sm srcw dstw hsrc hdst) kk) Q) := by
  subst hS
  unfold rcv0 rcv1 OW
  rw [if_pos hk, when_pos hk]
  iintro ⟨#Hx, ⟨HA, HC⟩, ⟨%W, HO⟩⟩ Hk
  ihave #HS := (ctx_rcv m K c k) $$ Hx
  icases HS with ⟨#I1, #R1⟩
  iapply (Rounds.wp_wait_rest_token 𝒱₀ (ER : Emb UB 𝕄) (sched m) (c : Thread nD τ) none
    (κ := K (c, some (.inr k))) (wpE_waitDma2_eq 𝒱₀ (c : Thread nD τ) none Set.univ) (Set.mem_univ _) () (O := owedL c l) (W := W)
    (R := 0) (m := 0) (T := ∅) (by rw [Nat.zero_add, expect_rcv m hk, hN])) $$ [HA HC HO]
  · rw [hN]
    iframe HA HC HO I1
    iapply (ctx_mayWait m K (klev k) (le_of_eq (lv_rcv c k)) hl) $$ Hx
  · iintro ⟨HO, HA, -, HP⟩
    ihave HP := (Entails.of_eq (rest_rcv m hk)) $$ HP
    imod (Rounds.cell_close (ER : Emb UB 𝕄) (sched m) (Set.mem_univ (K (c, some (.inr k)))) (fun h => h) (R := 0 + 1)
      (duties_later m (rcvC c k))) $$ [HA] with HV
    · isplitr; · iexact I1
      iexact HA
    iapply Hk
    isplitl [HV HP]
    · isplitl [HV] <;> iassumption
    · iexists _; iexact HO

end Cert.KernelIdeal.Norm
-- ==== Proof.KernelIdeal.Loop.lean ====
/-
# Normalizing a block

One trip of a loop takes 256 rows of the reduced array and of the residual into the local buffers, normalizes them and
copies the result out. Each of the loops does four trips over 1024 rows.
-/
module

public import proofs.«01_k».proof.Proof.KernelIdeal.Ops

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ
local notation "𝕋" => TpuEff nD τ sig (Elt F) Λ₀ (Proc.tc : Proc τ)

variable (m : (ℓ : Loc nD τ sig) → Buf (Elt F) ℓ)

variable (K : Dev nD × Option (Fin 19 ⊕ Fin 19) → ℕ)

/-! ## Buffers at one core -/

abbrev nsem0 : DmaSem sig := ((cc0_scratch17.slice (Rect.unit (s := S2) ![0] S1.size inb_S2_S1_0)).squeeze S_ squeezes_S1_S_).sem
abbrev nsem1 : DmaSem sig := ((cc0_scratch17.slice (Rect.unit (s := S2) ![1] S1.size inb_S2_S1_1)).squeeze S_ squeezes_S1_S_).sem
abbrev osem0 : DmaSem sig := ((cc0_scratch18.slice (Rect.unit (s := S1) ![0] S1.size inb_S1_S1_0)).squeeze S_ squeezes_S1_S_).sem

theorem hz2 : (![0, 0] : Fin 2 → ℕ) = fun _ => 0 := funext fun a => by fin_cases a <;> rfl

/-- A part of a buffer taken out, to be put back as it is. -/
theorem carve {ℓ : Loc nD τ sig} {S I : Finset (Idx ℓ)} (h : I ⊆ S) {q : PosShare TreeShare} {f : Buf (Elt F) ℓ} :
    (ℓ ↦[S]{q} f : sProp 𝕄) ⊢ iprop((ℓ ↦[I]{q} f) ∗ ((ℓ ↦[I]{q} f) -∗ (ℓ ↦[S]{q} f))) := by
  refine (pointsTo_split_subset h).1.trans ?_
  iintro ⟨H1, H2⟩
  isplitl [H1]; · iexact H1
  iintro H1
  iapply (pointsTo_split_subset h).2
  isplitl [H1] <;> iassumption

theorem lv_free (c : Dev nD) {s : DmaSem sig} (h : role s = none) : lv ((c : Thread nD τ), .dma s) () ≤ 0 := by
  dsimp only [lv]; rw [h]

/-- A local copy's wait. -/
theorem wp_copied (c : Dev nD) {l : List Ob} {sp sp' : Space} {s s' : Shape} {e e' : EltTy} {κ' : Kind} {sm : DmaSem sig}
    {srcw : Memref sig .tc sp' s' e'} {dstw : Memref sig κ' sp s e} {hsrc : srcw.view.WordExact} {hdst : dstw.view.WordExact}
    (hsm : lv ((c : Thread nD τ), .dma sm) () ≤ 0) {N : ℕ} (hN : dstw.view.dmaCredit = N)
    {α : Type} {k : PUnit → Prog 𝕋 α} {Q : α → sProp 𝕄} {D : sProp 𝕄} :
    iprop(ctx m K ∗ Transfers.Flight EC (c : Thread nD τ) (.dma sm) () N D ∗ OW c l)
      ⊢ iprop(((D ∗ semVal ((c : Thread nD τ), .dma sm) 0 ∗ OW c l) -∗ WP c (k ⟨⟩) Q)
          -∗ WP c (.op (.waitDma2 sm srcw dstw hsrc hdst) k) Q) := by
  unfold OW
  iintro ⟨#Hx, HF, ⟨%W, HO⟩⟩ Hk
  iapply (Transfers.wp_waitLocalO EC 𝒱₀ (c : Thread nD τ) none () hN (D := D) (O := owedL c l) (W := W)) $$ [HF HO]
  · isplitl [HF]; · iexact HF
    isplitl [HO]; · iexact HO
    iapply (ctx_mayWait m K 0 hsm fun o _ => lev_pos o) $$ Hx
  · iintro ⟨HD, HV, HO⟩
    iapply Hk
    isplitl [HD]; · iexact HD
    isplitl [HV]; · iexact HV
    iexists _; iexact HO

/-! ## The state between the trips -/

/-- The normalizing buffers, the residual and the result, the chunks in `S` of which are done. -/
def NS (c : Dev nD) (S : Finset ℕ) : sProp 𝕄 := iprop(
  (∃ f : Buf (Elt F) ((c : Thread nD τ).loc cc0_scratch3), ((c : Thread nD τ).loc cc0_scratch3) ↦{fullShare} f)
  ∗ (∃ f : Buf (Elt F) ((c : Thread nD τ).loc cc0_scratch4), ((c : Thread nD τ).loc cc0_scratch4) ↦{fullShare} f)
  ∗ (∃ f : Buf (Elt F) ((c : Thread nD τ).loc cc0_scratch5), ((c : Thread nD τ).loc cc0_scratch5) ↦{fullShare} f)
  ∗ (((c : Thread nD τ).loc main_arg1) ↦{fullShare} m ((c : Thread nD τ).loc main_arg1))
  ∗ (∃ f : Buf (Elt F) ((c : Thread nD τ).loc main_v1_0), (((c : Thread nD τ).loc main_v1_0) ↦{fullShare} f)
      ∗ ⌜∀ i : S8192x2048.Idx, (i 0).val / 256 ∈ S → f i = Ofin m c i⌝)
  ∗ semVal ((c : Thread nD τ), .dma nsem0) 0 ∗ semVal ((c : Thread nD τ), .dma nsem1) 0 ∗ semVal ((c : Thread nD τ), .dma osem0) 0)

/-- One trip, in its two halves. -/
def tripA (off : Fin 2 → ℕ) (h : ∀ a, off a + S256x2048.size a ≤ S8192x2048.size a)
    (hw : (wM.slice (Rect.unit (s := S8192x2048) off S256x2048.size h) (fun _ => rfl)).view.WordExact)
    (v : FVec F S1x2048 .f32) : Prog 𝕋 PUnit := do
  Prog.lift (.enqueueDma (wM.slice (Rect.unit (s := S8192x2048) off S256x2048.size h) (fun _ => rfl)) (.here nbM) (.dma nsem0)
    hw (Memref.isWhole_whole cc0_scratch3).wordExact ⟨Or.inl rfl, trivial⟩)
  Prog.lift (.enqueueDma (rsM.slice (Rect.unit (s := S8192x2048) off S256x2048.size h) (fun _ => rfl)) (.here nrM) (.dma nsem1)
    (View.wordExact_bits rfl) (Memref.isWhole_whole cc0_scratch4).wordExact ⟨Or.inl rfl, trivial⟩)
  Prog.lift (.waitDma2 nsem0 (wM.slice (Rect.unit (s := S8192x2048) off S256x2048.size h) (fun _ => rfl)) nbM
    hw (Memref.isWhole_whole cc0_scratch3).wordExact)
  Prog.lift (.waitDma2 nsem1 (rsM.slice (Rect.unit (s := S8192x2048) off S256x2048.size h) (fun _ => rfl)) nrM
    (View.wordExact_bits rfl) (Memref.isWhole_whole cc0_scratch4).wordExact)
  let a : Vec F S256x2048 .bf16 ← Prog.lift (.load nbM (Rect.unit (s := S256x2048) ![0, 0] S256x2048.size inb_S256x2048_S256x2048_0_0).toLoadRect (View.loadsAt_vmem h_S256x2048))
  let b : Vec F S256x2048 .f32 ← Prog.lift (.load nrM (Rect.unit (s := S256x2048) ![0, 0] S256x2048.size inb_S256x2048_S256x2048_0_0).toLoadRect (View.loadsAt_vmem h_S256x2048))
  let _z : Vec F S256x2048 .f32 ← Prog.lift (.load otM (Rect.unit (s := S256x2048) ![0, 0] S256x2048.size inb_S256x2048_S256x2048_0_0).toLoadRect (View.loadsAt_vmem h_S256x2048))
  Prog.lift (.store otM (Rect.unit (s := S256x2048) ![0, 0] S256x2048.size inb_S256x2048_S256x2048_0_0) (k0_pay1 v a b) Finset.univ (View.stores_vmem_bits_univ h_S256x2048 rfl) (.inl rfl))
  pure ⟨⟩
def tripB (off : Fin 2 → ℕ) (h : ∀ a, off a + S256x2048.size a ≤ S8192x2048.size a) : Prog 𝕋 PUnit := do
  Prog.lift (.enqueueDma otM (.here (oM.slice (Rect.unit (s := S8192x2048) off S256x2048.size h) (fun _ => rfl))) (.dma osem0)
    (Memref.isWhole_whole cc0_scratch5).wordExact (View.wordExact_bits rfl) ⟨Or.inl rfl, trivial⟩)
  Prog.lift (.waitDma2 osem0 otM (oM.slice (Rect.unit (s := S8192x2048) off S256x2048.size h) (fun _ => rfl))
    (Memref.isWhole_whole cc0_scratch5).wordExact (View.wordExact_bits rfl))
  pure ⟨⟩

theorem write_chunk {lo : ℕ} {off : Fin 2 → ℕ} (ho : off = ![lo, 0])
    (h : ∀ a, off a + S256x2048.size a ≤ S8192x2048.size a) {f g : S8192x2048.Idx → Elt F .f32} {w : S256x2048.Idx → Elt F .f32}
    (hw : ∀ (x : S256x2048.Idx) (i : S8192x2048.Idx), (i 0).val = lo + (x 0).val → (i 1).val = (x 1).val → w x = g i)
    (i : S8192x2048.Idx) :
    (oM.slice (Rect.unit (s := S8192x2048) off S256x2048.size h) (fun _ => rfl)).view.write (Elt F) f w Finset.univ i
      = if i ∈ rows lo 256 then g i else f i := by
  split
  · rename_i hm
    rw [← o_set (n := 256) ho h (fun _ => rfl)] at hm
    exact write_on (oM.slice (Rect.unit (s := S8192x2048) off S256x2048.size h) (fun _ => rfl)).view f g w
      (fun x => hw x _ (emb0 (n := 256) ho h x) (emb1 (n := 256) ho h x)) i hm
  · rename_i hm
    rw [← o_set (n := 256) ho h (fun _ => rfl)] at hm
    exact View.write_of_not_mem (v := (oM.slice (Rect.unit (s := S8192x2048) off S256x2048.size h) (fun _ => rfl)).view) f w _ hm

theorem Ofin_at (c : Dev nD) {lo : ℕ} (hlo : lo % 256 = 0) (x : S256x2048.Idx) (i : S8192x2048.Idx)
    (h0 : (i 0).val = lo + (x 0).val) (h1 : (i 1).val = (x 1).val) : nchunk m c lo x = Ofin m c i := by
  have hx : (x 0).val < 256 := (x 0).isLt
  have hq : 256 * ((i 0).val / 256) = lo := by omega
  unfold Ofin
  rw [hq]
  refine congrArg (nchunk m c lo) ?_
  funext a
  refine Fin.ext ?_
  match a with
  | ⟨0, _⟩ => show (x 0).val = (i 0).val % 256; omega
  | ⟨1, _⟩ => exact h1.symm

theorem chunk_done (c : Dev nD) {lo : ℕ} (hlo : lo % 256 = 0) {off : Fin 2 → ℕ} (ho : off = ![lo, 0])
    (h : ∀ a, off a + S256x2048.size a ≤ S8192x2048.size a) {S : Finset ℕ} {f : S8192x2048.Idx → Elt F .f32}
    (hf : ∀ i : S8192x2048.Idx, (i 0).val / 256 ∈ S → f i = Ofin m c i) (i : S8192x2048.Idx)
    (hi : (i 0).val / 256 ∈ insert (lo / 256) S) :
    (oM.slice (Rect.unit (s := S8192x2048) off S256x2048.size h) (fun _ => rfl)).view.write (Elt F) f (nchunk m c lo) Finset.univ i
      = Ofin m c i := by
  rw [write_chunk ho h (Ofin_at m c hlo) i]
  split
  · rfl
  · rename_i hm
    refine hf i ((Finset.mem_insert.mp hi).resolve_left fun h' => hm (mem_rows.mpr ?_))
    omega

theorem trip (c : Dev nD) {l : List Ob} {q : PosShare TreeShare} {lo : ℕ} (hlo : lo % 256 = 0) {off : Fin 2 → ℕ} (ho : off = ![lo, 0])
    (h : ∀ a, off a + S256x2048.size a ≤ S8192x2048.size a) (hw) {S : Finset ℕ} :
    iprop(ctx m K ∗ NS m c S ∗ wP m c q lo 256 ∗ OW c l)
      ⊢ WP c (tripA (F := F) off h hw (gam m c) >>= fun _ => tripB off h) (fun _ => iprop(NS m c (insert (lo / 256) S) ∗ wP m c q lo 256 ∗ OW c l)) := by
  unfold tripA tripB NS wP
  simp only [Prog.lift, Prog.bind_op, Prog.bind_ret, Prog.pure_eq_ret]
  iintro ⟨#Hx, ⟨⟨%fb, Hb⟩, ⟨%fr, Hr⟩, ⟨%ft, Ht⟩, HR, ⟨%fo, Ho, %hfo⟩, V0, V1, V2⟩, HW, HO⟩
  rw [← w_set (n := 256) ho h (fun _ => rfl)]
  icases (carve (ℓ := (c : Thread nD τ).loc main_arg1) (I := rows lo 256) (Finset.subset_univ _)) $$ HR with ⟨HRs, HRr⟩
  rw [← rs_set (n := 256) ho h (fun _ => rfl)]
  iapply (Transfers.wp_dmaLocal EC 𝒱₀ (c : Thread nD τ) none (dst := nbM) (Sd := Finset.univ) () _ rfl (View.dmaCredit_pos _ (by decide)) (Finset.subset_univ _)) $$ [HW Hb V0]
  · iframe
  iintro F0
  iapply (Transfers.wp_dmaLocal EC 𝒱₀ (c : Thread nD τ) none (dst := nrM) (Sd := Finset.univ) () _ rfl (View.dmaCredit_pos _ (by decide)) (Finset.subset_univ _)) $$ [HRs Hr V1]
  · iframe
  iintro F1
  iapply (wp_copied m K c (lv_free c (by decide)) rfl) $$ [F0 HO]
  · iframe F0 HO Hx
  iintro ⟨⟨Hb, HW⟩, V0, HO⟩
  iapply (wp_copied m K c (lv_free c (by decide)) rfl) $$ [F1 HO]
  · iframe F1 HO Hx
  iintro ⟨⟨Hr, HRs⟩, V1, HO⟩
  rw [w_read ho, rs_read ho, View.write_whole_univ, View.write_whole_univ]
  iapply (wp_load 𝒱₀ (c : Thread nD τ) none Set.univ (m := nbM) (Finset.subset_univ _)) $$ Hb; iintro Hb
  iapply (wp_load 𝒱₀ (c : Thread nD τ) none Set.univ (m := nrM) (Finset.subset_univ _)) $$ Hr; iintro Hr
  iapply (wp_load 𝒱₀ (c : Thread nD τ) none Set.univ (m := otM) (Finset.subset_univ _)) $$ Ht; iintro Ht
  iapply (wp_store 𝒱₀ (c : Thread nD τ) none Set.univ (m := otM)
    (r := Rect.unit (s := S256x2048) ![0, 0] S256x2048.size inb_S256x2048_S256x2048_0_0) (Mk := Finset.univ) (Finset.subset_univ _)) $$ Ht; iintro Ht
  have e : View.write (Elt F) (otM.access (Rect.unit (s := S256x2048) ![0, 0] S256x2048.size inb_S256x2048_S256x2048_0_0)) ft
      (k0_pay1 (gam m c)
        (View.readAt (Elt F) nbM.view (Rect.unit (s := S256x2048) ![0, 0] S256x2048.size inb_S256x2048_S256x2048_0_0).toLoadRect
          (chunk lo (Wfin m)))
        (View.readAt (Elt F) nrM.view (Rect.unit (s := S256x2048) ![0, 0] S256x2048.size inb_S256x2048_S256x2048_0_0).toLoadRect
          (chunk lo (m ((c : Thread nD τ).loc main_arg1))))) Finset.univ = nchunk m c lo :=
    (Memref.write_access_unit_zero_univ (Elt F) cc0_scratch5 hz2 _ ft _).trans
      (congrArg₂ (k0_pay1 (gam m c)) (Memref.readAt_unit_zero (Elt F) cc0_scratch3 hz2 _ _)
        (Memref.readAt_unit_zero (Elt F) cc0_scratch4 hz2 _ _))
  ihave Ht := (Entails.of_eq (congrArg (fun g => (((c : Thread nD τ).loc cc0_scratch5) ↦{fullShare} g : sProp 𝕄)) e)) $$ Ht
  iapply (Transfers.wp_dmaLocal EC 𝒱₀ (c : Thread nD τ) none (src := otM) (Sd := Finset.univ) () _ rfl
    (View.dmaCredit_pos _ (by decide)) (Finset.subset_univ _)) $$ [Ht Ho V2]
  · rw [View.set_whole]
    iframe
  iintro F2
  iapply (wp_copied m K c (lv_free c (by decide)) rfl) $$ [F2 HO]
  · iframe F2 HO Hx
  iintro ⟨⟨Ho, Ht⟩, V2, HO⟩
  ispecialize HRr $$ HRs
  rw [View.set_whole]
  iapply WP_ret
  iframe HO HW V0 V1 V2 HRr
  isplitl [Hb]; · iexists _; iexact Hb
  isplitl [Hr]; · iexists _; iexact Hr
  isplitl [Ht]; · iexists _; iexact Ht
  iexists _
  isplitl [Ho]; · iexact Ho
  ipureintro
  exact chunk_done m c hlo ho h hfo

/-- Four trips over 1024 rows, at the head of a program. -/
theorem norm_loop (c : Dev nD) {l : List Ob} {q : PosShare TreeShare} {lo : ℕ} (hlo : lo % 256 = 0) {S : Finset ℕ}
    (T : Scf.Loop 32) (ok : T.OK) (hT : T.trips = 4) (body : Fin T.trips → PUnit → Prog 𝕋 PUnit)
    (hbody : ∀ (k : Fin T.trips) (S : Finset ℕ), iprop(ctx m K ∗ NS m c S ∗ wP m c q (lo + 256 * k.val) 256 ∗ OW c l)
      ⊢ WP c (body k ⟨⟩) (fun _ => iprop(NS m c (insert ((lo + 256 * k.val) / 256) S) ∗ wP m c q (lo + 256 * k.val) 256 ∗ OW c l)))
    {α : Type} {kk : PUnit → Prog 𝕋 α} {Q : α → sProp 𝕄} :
    iprop(ctx m K ∗ NS m c S ∗ wP m c q lo 1024 ∗ OW c l)
      ⊢ iprop(((NS m c (S ∪ Finset.Ico (lo / 256) (lo / 256 + 4)) ∗ OW c l) -∗ WP c (kk ⟨⟩) Q)
          -∗ WP c (Scf.Loop.for T ok ⟨⟩ body >>= kk) Q) := by
  iintro ⟨#Hx, HN, HW, HO⟩ Hk
  iapply (Scf.wp_for_bind (kk := kk) (Q := Q) frame (wpE (defs₀ (F := F)) 𝒱₀ (c : Thread nD τ) none) Set.univ T.lb T.ub T.st ok ⟨⟩ body
    (fun n _ => iprop(ctx m K ∗ NS m c (S ∪ Finset.Ico (lo / 256) (lo / 256 + n)) ∗ wP m c q lo 1024 ∗ OW c l)) ?_) $$ [HN HW HO]
  · intro k acc
    have hk : k.val < 4 := lt_of_lt_of_eq k.isLt hT
    have hsub : rows (lo + 256 * k.val) 256 ⊆ rows lo 1024 := fun i hi => by
      rw [mem_rows] at hi ⊢; omega
    have hS : insert ((lo + 256 * k.val) / 256) (S ∪ Finset.Ico (lo / 256) (lo / 256 + k.val))
        = S ∪ Finset.Ico (lo / 256) (lo / 256 + (k.val + 1)) := by
      ext n
      rw [Finset.mem_insert, Finset.mem_union, Finset.mem_union, Finset.mem_Ico, Finset.mem_Ico,
        show (lo + 256 * k.val) / 256 = lo / 256 + k.val by omega]
      constructor
      · rintro (h | h | h)
        · exact .inr (by omega)
        · exact .inl h
        · exact .inr (by omega)
      · rintro (h | h)
        · exact .inr (.inl h)
        · by_cases hn : n = lo / 256 + k.val
          · exact .inl hn
          · exact .inr (.inr (by omega))
    iintro ⟨#Hx, HN, HW, HO⟩
    unfold wP
    icases (carve hsub) $$ HW with ⟨HW, HR⟩
    iapply (wp_wand_r frame (wpE (defs₀ (F := F)) 𝒱₀ (c : Thread nD τ) none) Set.univ)
    isplitl [HN HW HO]
    · iapply (hbody k _)
      unfold wP
      iframe HN HW HO Hx
    · iintro %_ ⟨HN, HW, HO⟩
      unfold wP
      rw [hS]
      ispecialize HR $$ HW
      iframe HN HR HO Hx
  · rw [Nat.add_zero, Finset.Ico_self, Finset.union_empty]
    iframe HN HW HO Hx
  · iintro %_ ⟨-, HN, -, HO⟩
    iapply Hk
    rw [show Scf.trips T.lb T.ub T.st = 4 from hT]
    iframe HN HO

/-- A function of the kernel's operands, at this launch's. -/
abbrev atArgs {β : Sort _} (f : (arg0 : Memref sig .tc .hbm S1x8192x2048 .f32) → arg0.IsWhole → (arg1 : Memref sig .tc .hbm S8192x2048 .f32) → arg1.IsWhole
    → (arg2 : Memref sig .tc .vmem S2048 .f32) → arg2.IsWhole → (arg3 : Memref sig .tc .hbm S8192x2048 .f32) → arg3.IsWhole
    → (arg4 : Memref sig .tc .hbm S8192x2048 .bf16) → arg4.IsWhole → (arg5 : Memref sig .tc .vmem S3x256x2048 .bf16) → arg5.IsWhole
    → (arg6 : Memref sig .tc .vmem S2x256x2048 .bf16) → arg6.IsWhole → (arg7 : Memref sig .tc .vmem S256x2048 .f32) → arg7.IsWhole
    → (arg8 : Memref sig .tc .vmem S256x2048 .bf16) → arg8.IsWhole → (arg9 : Memref sig .tc .vmem S256x2048 .f32) → arg9.IsWhole
    → (arg10 : Memref sig .tc .vmem S256x2048 .f32) → arg10.IsWhole → DmaSems sig S3 → DmaSems sig S3 → DmaSems sig S3 → DmaSems sig S3
    → DmaSems sig S3 → DmaSems sig S3 → DmaSems sig S3 → DmaSems sig S3 → DmaSems sig S7 → DmaSems sig S7 → DmaSems sig S2 → DmaSems sig S2
    → DmaSems sig S1 → β) : β :=
  f pM (Memref.isWhole_whole _) rsM (Memref.isWhole_whole _) gM (Memref.isWhole_whole _) oM (Memref.isWhole_whole _)
    wM (Memref.isWhole_whole _) rqM (Memref.isWhole_whole _) sbM (Memref.isWhole_whole _) xtM (Memref.isWhole_whole _)
    nbM (Memref.isWhole_whole _) nrM (Memref.isWhole_whole _) otM (Memref.isWhole_whole _) cc0_scratch6 cc0_scratch7 cc0_scratch8
    cc0_scratch9 cc0_scratch10 cc0_scratch11 cc0_scratch12 cc0_scratch13 cc0_scratch14 cc0_scratch15 cc0_scratch16 cc0_scratch17 cc0_scratch18

theorem sRow_mod (c : Dev nD) (k : Fin 19) : sRow c k % 256 = 0 := by revert c k; decide +kernel
theorem rRow_mod (c : Dev nD) (k : Fin 19) : rRow c k % 256 = 0 := sRow_mod _ k

end Cert.KernelIdeal.Norm
-- ==== Proof.KernelIdeal.Steps.lean ====
/-
# Steps under a condition

The kernel sends, forwards, waits and normalizes under conditions on the device's place in the mesh. Each lemma here takes
one such step, whichever way the condition falls.
-/
module

public import proofs.«01_k».proof.Proof.KernelIdeal.Loop

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ
local notation "𝕋" => TpuEff nD τ sig (Elt F) Λ₀ (Proc.tc : Proc τ)

variable (m : (ℓ : Loc nD τ sig) → Buf (Elt F) ℓ)

variable (K : Dev nD × Option (Fin 19 ⊕ Fin 19) → ℕ)

/-- The rows that `c` sends in a transfer, at a share, if it sends it. -/
def src (c : Dev nD) (k : Fin 19) (q : PosShare TreeShare) : sProp 𝕄 := when (has c k) (wP m c q (sRow c k) (nRow k))

theorem src_pos {c : Dev nD} {k : Fin 19} {q : PosShare TreeShare} (h : has c k = true) :
    src m c k q = wP m c q (sRow c k) (nRow k) := when_pos h _

theorem lift_bind {β α : Type} (e : TpuEff nD τ sig (Elt F) Λ₀ (Proc.tc : Proc τ) β) (kk : β → Prog 𝕋 α) :
    (Prog.lift e >>= kk) = Prog.op e kk := rfl

/-- The start of a transfer between rows of the reduced array. -/
theorem send (c : Dev nD) (k : Fin 19) (hk : has c k = true) (h4 : 4 ≤ k.val) {n : ℕ} (hn : nRow k = n) {l : List Ob}
    {q : PosShare TreeShare} {dv : Dev nD} (hd : dv = peer c k) {off : Fin 2 → ℕ} (ho : off = ![sRow c k, 0])
    {h h' : ∀ a, off a + (![n, 2048] : Fin 2 → ℕ) a ≤ S8192x2048.size a} {sS sR : DmaSem sig} (hS : sS = sSem k)
    (hR : sR = rSem k) (hN : amt k = sig.dmaCredit .tc (Kind.table .tc .hbm) (main_v1_1 : Ref sig .tc).idx ⟨2, ![n, 2048]⟩ .bf16)
    {hsc hsrc hdst hsem} {α : Type} {kk : PUnit → Prog 𝕋 α} {Q : α → sProp 𝕄} :
    iprop(ctx m K ∗ src m c k q ∗ snd0 c k ∗ OW c (.xf k :: l))
      ⊢ iprop(((snd1 c k ∗ OW c l) -∗ WP c (kk ⟨⟩) Q)
          -∗ WP c (Prog.lift (.enqueueDma (wM.slice (Rect.unit (s := S8192x2048) off ![n, 2048] h) (fun _ => rfl))
              (.remote (Dev.tc dv : Thread nD τ) (wM.slice (Rect.unit (s := S8192x2048) off ![n, 2048] h') (fun _ => rfl)) (.dma sS) hsc)
              (.dma sR) hsrc hdst hsem) >>= kk) Q) := by
  subst hd
  have h3 : ¬ k.val < 3 := by omega
  unfold src snd0 landP wP
  rw [when_pos hk, when_pos hk, if_neg h3, hn]
  iintro ⟨#Hx, Hs, ⟨⟨HT, ⟨%fd, Hd⟩⟩, HA⟩, HO⟩ Hk
  rw [rRow_peer, ← w_set (n := n) ho h (fun _ => rfl)]
  iapply (wp_start m K c (peer c k) k rfl hk hS hR (kk := kk) hN.symm
    (fs := Wfin m) (fd := fd) (q := q) ?_ ?_) $$ [Hs Hd HT HA HO]
  · unfold sendPay
    rw [if_neg h3, if_neg (by omega)]
    iintro -; iempintro
  · unfold recvPay
    rw [if_neg h3, hn, rRow_peer]
    refine Entails.of_eq (Eq.trans (pointsTo_congr ?_) (congrArg (fun S => pointsTo _ S _ _) (w_set (n := n) ho h' (fun _ => rfl))))
    exact write_on (wM.slice (Rect.unit (s := S8192x2048) off ![n, 2048] h') (fun _ => rfl)).view fd (Wfin m) _ (fun x => rfl)
  · iframe Hx Hs Hd HT HA HO
  · iexact Hk

/-- The same under a condition. -/
theorem g_send (c : Dev nD) (k : Fin 19) {cond : Prop} [Decidable cond] (hb : cond ↔ has c k = true) (h4 : 4 ≤ k.val)
    {n : ℕ} (hn : nRow k = n) {l : List Ob} {q : PosShare TreeShare} {dv : cond → Dev nD} (hd : ∀ h, dv h = peer c k)
    {off : Fin 2 → ℕ} (ho : has c k = true → off = ![sRow c k, 0])
    {h h' : cond → ∀ a, off a + (![n, 2048] : Fin 2 → ℕ) a ≤ S8192x2048.size a} {sS sR : DmaSem sig} (hS : sS = sSem k)
    (hR : sR = rSem k) (hN : amt k = sig.dmaCredit .tc (Kind.table .tc .hbm) (main_v1_1 : Ref sig .tc).idx ⟨2, ![n, 2048]⟩ .bf16)
    {hsc : ∀ hc, (wM.slice (Rect.unit (s := S8192x2048) off ![n, 2048] (h' hc)) (fun _ => rfl)).view.ref.isScScratch = false}
    {hsrc : ∀ hc, (wM.slice (Rect.unit (s := S8192x2048) off ![n, 2048] (h hc)) (fun _ => rfl)).view.WordExact}
    {hdst : ∀ hc, (wM.slice (Rect.unit (s := S8192x2048) off ![n, 2048] (h' hc)) (fun _ => rfl)).view.WordExact}
    {hsem : ∀ hc, DmaTarget.Typed .hbm (.dma sR) (.remote (Dev.tc (dv hc) : Thread nD τ) (wM.slice (Rect.unit (s := S8192x2048) off ![n, 2048] (h' hc)) (fun _ => rfl)) (.dma sS) (hsc hc))} {α : Type} {kk : Prog 𝕋 α} {Q : α → sProp 𝕄} :
    iprop(ctx m K ∗ src m c k q ∗ snd0 c k ∗ OW c (.xf k :: l))
      ⊢ iprop(((snd1 c k ∗ OW c l) -∗ WP c kk Q)
          -∗ WP c (if hc : cond then Prog.lift (.enqueueDma (wM.slice (Rect.unit (s := S8192x2048) off ![n, 2048] (h hc)) (fun _ => rfl))
              (.remote (Dev.tc (dv hc) : Thread nD τ) (wM.slice (Rect.unit (s := S8192x2048) off ![n, 2048] (h' hc)) (fun _ => rfl)) (.dma sS) (hsc hc))
              (.dma sR) (hsrc hc) (hdst hc) (hsem hc)) >>= fun _ => kk else kk) Q) := by
  refine wp_guard c hb (fun hc hk => send m K c k hk h4 hn (hd hc) (ho hk) hS hR hN (kk := fun _ => kk)) fun hk => ?_
  rw [OW_skip (o := .xf k) hk]
  iintro ⟨-, -, H, HO⟩
  isplitl [H]
  · iapply (snd1_skip hk) $$ H
  · iexact HO

/-- The wait for the end of a transfer out, under a condition. -/
theorem g_waitS (c : Dev nD) (k : Fin 19) {cond : Prop} [Decidable cond] (hb : cond ↔ has c k = true) {l : List Ob}
    {sp sp' : Space} {s s' : Shape} {e e' : EltTy} {κ' : Kind} {srcw : cond → Memref sig .tc sp' s' e'} {dstw : cond → Memref sig κ' sp s e}
    {hsrc : ∀ h, (srcw h).view.WordExact} {hdst : ∀ h, (dstw h).view.WordExact} {sm : DmaSem sig} (hS : sm = sSem k)
    {α : Type} {kk : Prog 𝕋 α} {Q : α → sProp 𝕄} (hN : ∀ h, (dstw h).view.dmaCredit = amt k) :
    iprop(ctx m K ∗ snd1 c k ∗ OW c l)
      ⊢ iprop(((snd2 c k ∗ OW c l) -∗ WP c kk Q)
          -∗ WP c (if h : cond then Prog.lift (.waitDma2 sm (srcw h) (dstw h) (hsrc h) (hdst h)) >>= fun _ => kk else kk) Q) := by
  refine wp_guard c hb (fun hc hk => by rw [lift_bind]; exact wp_waitS m K c k hk hS (hN hc) (kk := fun _ => kk)) fun hk => ?_
  iintro ⟨-, H, HO⟩
  isplitl [H]
  · iapply (snd2_skip hk) $$ H
  · iexact HO

/-- A wait for a landing, as a whole program. -/
theorem part_waitR (c : Dev nD) (k : Fin 19) (hk : hasR c k = true) {l : List Ob} (hl : ∀ o ∈ l, klev k < o.lev)
    {sp sp' : Space} {s s' : Shape} {e e' : EltTy} {κ' : Kind} {srcw : Memref sig .tc sp' s' e'} {dstw : Memref sig κ' sp s e}
    {hsrc : srcw.view.WordExact} {hdst : dstw.view.WordExact} {sm : DmaSem sig} (hS : sm = rSem k) (hN : dstw.view.dmaCredit = amt k) :
    iprop(ctx m K ∗ rcv0 c k ∗ OW c l)
      ⊢ WP c (Prog.lift (.waitDma2 sm srcw dstw hsrc hdst) >>= fun _ => pure ⟨⟩) (fun _ : PUnit => iprop(rcv1 m c k ∗ OW c l)) := by
  rw [lift_bind]
  iintro H
  iapply (wp_waitR m K c k hk hl hS hN) $$ H
  iintro H
  iapply WP_ret
  iexact H

/-- Where the landed rows go: a share each for the transfer across, for the one that passes them on, for the local copies. -/
theorem split_rcv (c : Dev nD) (kr k kz : Fin 19) (hr : hasR c kr = true) (hk : has c k = true) (h3 : ¬ kr.val < 3)
    (hrow : rRow c kr = sRow c k) (hn : nRow kr = nRow k) (hz : has c kz = true → sRow c kz = sRow c k) (hnz : nRow kz = nRow k) :
    rcv1 m c kr ⊢ iprop(semVal (rcvC c kr) 0 ∗ src m c k fullShare.left ∗ src m c kz fullShare.right.left ∗ src m c k fullShare.right.right) := by
  unfold rcv1 recvPay src wP
  rw [when_pos hr, when_pos hk, when_pos hk, if_neg h3, hrow, hn]
  iintro ⟨HV, H⟩
  icases (pointsTo_share (PosShare.mem_left_op_right fullShare)).1 $$ H with ⟨H1, H⟩
  icases (pointsTo_share (PosShare.mem_left_op_right fullShare.right)).1 $$ H with ⟨H2, H3⟩
  iframe HV H1 H3
  by_cases h : has c kz = true
  · rw [when_pos h, hz h, hnz]; iexact H2
  · rw [when_neg h]; iempintro

/-- Kind `k` sends across what kind `kr` lands, and kind `kz` passes it on. -/
def Fwd (kr k kz : Fin 19) : Prop := ∀ c : Dev nD, hasR c kr = has c k ∧ (has c kz = true → has c k = true)
  ∧ (has c k = true → rRow c kr = sRow c k) ∧ (has c kz = true → sRow c kz = sRow c k)
theorem fwd13 : Fwd 6 13 7 := by unfold Fwd; decide +kernel
theorem fwd14 : Fwd 9 14 10 := by unfold Fwd; decide +kernel
theorem fwd15 : Fwd 7 15 8 := by unfold Fwd; decide +kernel
theorem fwd16 : Fwd 10 16 11 := by unfold Fwd; decide +kernel
theorem fwd17 : Fwd 8 17 17 := by unfold Fwd; decide +kernel
theorem fwd18 : Fwd 11 18 18 := by unfold Fwd; decide +kernel

theorem trip_mod {lo t : ℕ} (h : lo % 256 = 0) : (lo + 256 * t) % 256 = 0 := by omega

/-- A landed block sent across, under a condition. -/
theorem g_fwd (c : Dev nD) (kr k kz : Fin 19) {cond : Prop} [Decidable cond] (hb : cond ↔ has c k = true) (h4 : 4 ≤ k.val)
    (hf : Fwd kr k kz) (h3 : ¬ kr.val < 3) (hnn : nRow kr = nRow k) (hnz : nRow kz = nRow k)
    {n : ℕ} (hn : nRow k = n) {l : List Ob} {dv : cond → Dev nD} (hd : ∀ h, dv h = peer c k)
    {off : Fin 2 → ℕ} (ho : has c k = true → off = ![sRow c k, 0])
    {h h' : cond → ∀ a, off a + (![n, 2048] : Fin 2 → ℕ) a ≤ S8192x2048.size a} {sS sR : DmaSem sig} (hS : sS = sSem k)
    (hR : sR = rSem k) (hN : amt k = sig.dmaCredit .tc (Kind.table .tc .hbm) (main_v1_1 : Ref sig .tc).idx ⟨2, ![n, 2048]⟩ .bf16)
    {hsc : ∀ hc, (wM.slice (Rect.unit (s := S8192x2048) off ![n, 2048] (h' hc)) (fun _ => rfl)).view.ref.isScScratch = false}
    {hsrc : ∀ hc, (wM.slice (Rect.unit (s := S8192x2048) off ![n, 2048] (h hc)) (fun _ => rfl)).view.WordExact}
    {hdst : ∀ hc, (wM.slice (Rect.unit (s := S8192x2048) off ![n, 2048] (h' hc)) (fun _ => rfl)).view.WordExact}
    {hsem : ∀ hc, DmaTarget.Typed .hbm (.dma sR) (.remote (Dev.tc (dv hc) : Thread nD τ) (wM.slice (Rect.unit (s := S8192x2048) off ![n, 2048] (h' hc)) (fun _ => rfl)) (.dma sS) (hsc hc))} {part : cond → Prog 𝕋 PUnit}
    (hpart : ∀ h : cond, hasR c kr = true → iprop(ctx m K ∗ rcv0 c kr ∗ OW c (.xf k :: l)) ⊢ WP c (part h) (fun _ => iprop(rcv1 m c kr ∗ OW c (.xf k :: l))))
    {α : Type} {kk : Prog 𝕋 α} {Q : α → sProp 𝕄} :
    iprop(ctx m K ∗ rcv0 c kr ∗ snd0 c k ∗ OW c (.xf k :: l))
      ⊢ iprop(((semVal (rcvC c kr) 0 ∗ snd1 c k ∗ src m c kz fullShare.right.left ∗ src m c k fullShare.right.right ∗ OW c l) -∗ WP c kk Q)
          -∗ WP c (if hc : cond then part hc >>= fun _ =>
            Prog.lift (.enqueueDma (wM.slice (Rect.unit (s := S8192x2048) off ![n, 2048] (h hc)) (fun _ => rfl))
              (.remote (Dev.tc (dv hc) : Thread nD τ) (wM.slice (Rect.unit (s := S8192x2048) off ![n, 2048] (h' hc)) (fun _ => rfl)) (.dma sS) (hsc hc))
              (.dma sR) (hsrc hc) (hdst hc) (hsem hc)) >>= fun _ => kk else kk) Q) := by
  obtain ⟨hrk, hz', hrow, hz⟩ := hf c
  have hr : has c k = true → hasR c kr = true := fun h => hrk.trans h
  have hrc : hasR c kr = true → has c k = true := fun h => hrk.symm.trans h
  refine wp_guard c hb (fun hc hk => ?_) fun hk => ?_
  · iintro ⟨#Hx, HR, HS, HO⟩ Hk
    iapply (wp_seq c (hpart hc (hr hk))) $$ [HR HO]
    · iframe HR HO Hx
    iintro %_ ⟨HR, HO⟩
    icases (split_rcv m c kr k kz (hr hk) hk h3 (hrow hk) hnn hz hnz) $$ HR with ⟨HV, H1, H2, H3⟩
    iapply (send m K c k hk h4 hn (hd hc) (ho hk) hS hR hN) $$ [HS H1 HO]
    · iframe HS H1 HO Hx
    iintro ⟨HS, HO⟩
    iapply Hk
    iframe
  · have hkr : ¬ hasR c kr = true := fun h => hk (hrc h)
    have hkz : ¬ has c kz = true := fun h => hk (hz' h)
    unfold src rcv0
    rw [OW_skip (o := .xf k) hk, when_neg hk, when_neg hkz, if_neg hkr]
    iintro ⟨-, HV, H, HO⟩
    ihave HS := (snd1_skip hk) $$ H
    iframe HV HS HO

/-- The chunks done once the sent block of a kind is normalized, -/
def covS (c : Dev nD) (k : Fin 19) (S : Finset ℕ) : Finset ℕ :=
  if has c k = true then S ∪ Finset.Ico (sRow c k / 256) (sRow c k / 256 + 4) else S
/-- or the received one. -/
def covR (c : Dev nD) (k : Fin 19) (S : Finset ℕ) : Finset ℕ :=
  if hasR c k = true then S ∪ Finset.Ico (rRow c k / 256) (rRow c k / 256 + 4) else S

theorem covS_pos {c : Dev nD} {k : Fin 19} (h : has c k = true) (S : Finset ℕ) :
    covS c k S = S ∪ Finset.Ico (sRow c k / 256) (sRow c k / 256 + 4) := if_pos h

theorem across_has : ∀ (c : Dev nD) (k : Fin 19), 12 ≤ k.val → has c k = hasR c k := by decide +kernel

/-- The wait for the end of a transfer out, at the head of a program. -/
theorem waitS (c : Dev nD) (k : Fin 19) (hk : has c k = true) {l : List Ob}
    {sp sp' : Space} {s s' : Shape} {e e' : EltTy} {κ' : Kind} {srcw : Memref sig .tc sp' s' e'} {dstw : Memref sig κ' sp s e}
    {hsrc : srcw.view.WordExact} {hdst : dstw.view.WordExact} {sm : DmaSem sig} (hS : sm = sSem k)
    {α : Type} {kk : PUnit → Prog 𝕋 α} {Q : α → sProp 𝕄} (hN : dstw.view.dmaCredit = amt k) :
    iprop(ctx m K ∗ snd1 c k ∗ OW c l)
      ⊢ iprop(((snd2 c k ∗ OW c l) -∗ WP c (kk ⟨⟩) Q) -∗ WP c (Prog.lift (.waitDma2 sm srcw dstw hsrc hdst) >>= kk) Q) :=
  wp_waitS m K c k hk hS hN

/-- Four trips over a block that is also sent, under a condition. -/
theorem g_loop (c : Dev nD) (k : Fin 19) {cond : Prop} [Decidable cond] (hb : cond ↔ has c k = true) (hn : nRow k = 1024)
    {l : List Ob} {q : PosShare TreeShare} {S : Finset ℕ} {T : Scf.Loop 32} {ok : cond → T.OK} (hT : T.trips = 4)
    {body : cond → Fin T.trips → PUnit → Prog 𝕋 PUnit}
    (hbody : ∀ (h : cond) (hk : has c k = true) (t : Fin T.trips) (S : Finset ℕ), iprop(ctx m K ∗ NS m c S ∗ wP m c q (sRow c k + 256 * t.val) 256 ∗ OW c l)
      ⊢ WP c (body h t ⟨⟩) (fun _ => iprop(NS m c (insert ((sRow c k + 256 * t.val) / 256) S) ∗ wP m c q (sRow c k + 256 * t.val) 256 ∗ OW c l)))
    {α : Type} {kk : Prog 𝕋 α} {Q : α → sProp 𝕄} :
    iprop(ctx m K ∗ NS m c S ∗ src m c k q ∗ OW c l)
      ⊢ iprop(((NS m c (covS c k S) ∗ OW c l) -∗ WP c kk Q)
          -∗ WP c (if h : cond then Scf.Loop.for T (ok h) ⟨⟩ (body h) >>= fun _ => kk else kk) Q) := by
  unfold src covS
  refine wp_guard c hb (fun hc hk => ?_) fun hk => ?_
  · rw [if_pos hk, when_pos hk, hn]
    exact norm_loop m K c (sRow_mod c k) T (ok hc) hT (body hc) (hbody hc hk) (kk := fun _ => kk)
  · rw [if_neg hk]
    iintro ⟨-, HN, -, HO⟩
    iframe HN HO

/-- A landing from across and four trips over its block. -/
theorem part_rcv (c : Dev nD) (k : Fin 19) (hk : hasR c k = true) (h3 : ¬ k.val < 3) (hn : nRow k = 1024) {S : Finset ℕ}
    {sp sp' : Space} {s s' : Shape} {e e' : EltTy} {κ' : Kind} {srcw : Memref sig .tc sp' s' e'} {dstw : Memref sig κ' sp s e}
    {hsrc : srcw.view.WordExact} {hdst : dstw.view.WordExact} {sm : DmaSem sig} (hS : sm = rSem k) (hN : dstw.view.dmaCredit = amt k)
    {T : Scf.Loop 32} {ok : T.OK} (hT : T.trips = 4) {body : Fin T.trips → PUnit → Prog 𝕋 PUnit}
    (hbody : ∀ (t : Fin T.trips) (S : Finset ℕ), iprop(ctx m K ∗ NS m c S ∗ wP m c fullShare (rRow c k + 256 * t.val) 256 ∗ OW c [])
      ⊢ WP c (body t ⟨⟩) (fun _ => iprop(NS m c (insert ((rRow c k + 256 * t.val) / 256) S) ∗ wP m c fullShare (rRow c k + 256 * t.val) 256 ∗ OW c [])))
    {α : Type} {kk : PUnit → Prog 𝕋 α} {Q : α → sProp 𝕄} :
    iprop(ctx m K ∗ NS m c S ∗ rcv0 c k ∗ OW c [])
      ⊢ iprop(((NS m c (covR c k S) ∗ semVal (rcvC c k) 0 ∗ OW c []) -∗ WP c (kk ⟨⟩) Q)
        -∗ WP c (Prog.lift (.waitDma2 sm srcw dstw hsrc hdst) >>= fun _ => Scf.Loop.for T ok ⟨⟩ body >>= kk) Q) := by
  iintro ⟨#Hx, HN, HR, HO⟩ Hk
  iapply (wp_waitR m K c k hk (fun _ h => absurd h (List.not_mem_nil)) hS (kk := fun _ => Scf.Loop.for T ok ⟨⟩ body >>= kk) hN) $$ [HR HO]
  · iframe HR HO Hx
  unfold rcv1 recvPay covR
  rw [when_pos hk, if_neg h3, if_pos hk, hn]
  iintro ⟨⟨HV, HW⟩, HO⟩
  iapply (norm_loop m K c (rRow_mod c k) T ok hT body hbody (kk := kk)) $$ [HN HW HO]
  · unfold wP
    iframe HN HW HO Hx
  iintro ⟨HN, HO⟩
  iapply Hk
  iframe

/-- A landing from across, its block normalized, and the end of the transfer the other way. -/
theorem g_across (c : Dev nD) (k : Fin 19) {cond : Prop} [Decidable cond] (hb : cond ↔ has c k = true)
    (hh : has c k = hasR c k) {S : Finset ℕ} {β : Type} {part : cond → Prog 𝕋 β} {α : Type} {kk' : cond → β → Prog 𝕋 α}
    (hpart : ∀ h : cond, hasR c k = true → iprop(ctx m K ∗ NS m c S ∗ rcv0 c k ∗ OW c [])
      ⊢ WP c (part h) (fun _ => iprop(NS m c (covR c k S) ∗ semVal (rcvC c k) 0 ∗ OW c [])))
    {kk : Prog 𝕋 α} {Q : α → sProp 𝕄}
    (hkk : ∀ (h : cond) (x : β), has c k = true → iprop(ctx m K ∗ snd1 c k ∗ OW c []) ⊢ iprop(((snd2 c k ∗ OW c []) -∗ WP c kk Q) -∗ WP c (kk' h x) Q)) :
    iprop(ctx m K ∗ NS m c S ∗ rcv0 c k ∗ snd1 c k ∗ OW c [])
      ⊢ iprop(((NS m c (covR c k S) ∗ semVal (rcvC c k) 0 ∗ snd2 c k ∗ OW c []) -∗ WP c kk Q)
          -∗ WP c (if h : cond then part h >>= kk' h else kk) Q) := by
  refine wp_guard c hb (fun hc hk => ?_) fun hk => ?_
  · iintro ⟨#Hx, HN, HR, HS, HO⟩ Hk
    iapply (wp_seq c (hpart hc (hh ▸ hk))) $$ [HN HR HO]
    · iframe HN HR HO Hx
    iintro %x ⟨HN, HV, HO⟩
    iapply (hkk hc x hk) $$ [HS HO]
    · iframe HS HO Hx
    iintro ⟨HS, HO⟩
    iapply Hk
    iframe
  · have hk' : ¬ hasR c k = true := fun h => hk (hh ▸ h)
    unfold covR rcv0
    rw [if_neg hk', if_neg hk']
    iintro ⟨-, HN, HV, HS, HO⟩
    ihave HS := (snd2_skip hk) $$ HS
    iframe

end Cert.KernelIdeal.Norm
-- ==== Proof.KernelIdeal.Reduce.lean ====
/-
# Steps of the sum along `y`

Chunks of the partial come in by local copies, running sums go out through the send buffer, and land in the queue.
-/
module

public import proofs.«01_k».proof.Proof.KernelIdeal.Steps

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ
local notation "𝕋" => TpuEff nD τ sig (Elt F) Λ₀ (Proc.tc : Proc τ)

variable (m : (ℓ : Loc nD τ sig) → Buf (Elt F) ℓ)

variable (K : Dev nD × Option (Fin 19 ⊕ Fin 19) → ℕ)

/-! ## The local copies of the partial -/

abbrev lsem0 : DmaSem sig := ((cc0_scratch16.slice (Rect.unit (s := S2) ![0] S1.size inb_S2_S1_0)).squeeze S_ squeezes_S1_S_).sem
abbrev lsem1 : DmaSem sig := ((cc0_scratch16.slice (Rect.unit (s := S2) ![1] S1.size inb_S2_S1_1)).squeeze S_ squeezes_S1_S_).sem

abbrev Nx : ℕ := xtM.view.dmaCredit

/-- The partial, whole. -/
def PA (c : Dev nD) : sProp 𝕄 := ((c : Thread nD τ).loc main_arg0) ↦{fullShare} m ((c : Thread nD τ).loc main_arg0)
/-- The chunk buffer idle; at step `s`'s chunk; and with that chunk under way. -/
def XF (c : Dev nD) : sProp 𝕄 := iprop((∃ f : Buf (Elt F) ((c : Thread nD τ).loc cc0_scratch2), ((c : Thread nD τ).loc cc0_scratch2) ↦{fullShare} f)
  ∗ PA m c ∗ semVal ((c : Thread nD τ), .dma lsem0) 0)
def XR (c : Dev nD) (s : ℕ) : sProp 𝕄 := iprop((((c : Thread nD τ).loc cc0_scratch2) ↦{fullShare} xch m c s) ∗ PA m c ∗ semVal ((c : Thread nD τ), .dma lsem0) 0)
def XFL (c : Dev nD) (s : ℕ) : sProp 𝕄 := iprop(∃ D : sProp 𝕄, Transfers.Flight EC (c : Thread nD τ) (.dma lsem0) () Nx D
  ∗ (D -∗ ((((c : Thread nD τ).loc cc0_scratch2) ↦{fullShare} xch m c s) ∗ PA m c)))

theorem XR_idle (c : Dev nD) (s : ℕ) : XR m c s ⊢ XF m c := by
  unfold XR XF
  iintro ⟨H, HP, HV⟩
  iframe HP HV
  iexists _; iexact H

theorem fetch (c : Dev nD) (s : ℕ) {off : Fin 3 → ℕ} (ho : off = ![0, pRow c s, 0])
    {h : ∀ a, off a + S1x256x2048.size a ≤ S1x8192x2048.size a} {hsrc hdst hsem}
    {α : Type} {kk : PUnit → Prog 𝕋 α} {Q : α → sProp 𝕄} :
    XF m c ⊢ iprop((XFL m c s -∗ WP c (kk ⟨⟩) Q)
      -∗ WP c (Prog.lift (.enqueueDma ((pM.slice (Rect.unit (s := S1x8192x2048) off S1x256x2048.size h) (fun _ => rfl)).squeeze S256x2048
          squeezes_S1x256x2048_S256x2048) (.here xtM) (.dma lsem0) hsrc hdst hsem) >>= kk) Q) := by
  rw [lift_bind]
  unfold XF XFL PA
  iintro ⟨⟨%f, Hf⟩, HP, HV⟩ Hk
  icases (carve (ℓ := (c : Thread nD τ).loc main_arg0)
    (I := ((pM.slice (Rect.unit (s := S1x8192x2048) off S1x256x2048.size h) (fun _ => rfl)).squeeze S256x2048
          squeezes_S1x256x2048_S256x2048).view.set) (Finset.subset_univ _)) $$ HP with ⟨HPs, HPr⟩
  iapply (Transfers.wp_dmaLocal EC 𝒱₀ (c : Thread nD τ) none (dst := xtM) (Sd := Finset.univ) () _ rfl (View.dmaCredit_pos _ (by decide)) (Finset.subset_univ _)) $$ [HPs Hf HV]
  · iframe
  iintro HF
  iapply Hk
  iexists _
  isplitl [HF]; · iexact HF
  iintro ⟨H, HP⟩
  ispecialize HPr $$ HP
  iframe HPr
  rw [View.write_whole_univ]
  iapply (Entails.of_eq (congrArg (fun g => (((c : Thread nD τ).loc cc0_scratch2) ↦{fullShare} g : sProp 𝕄)) (p_read ho h (fun _ => rfl) _))) $$ H

theorem fetched (c : Dev nD) (s : ℕ) {l : List Ob} {sp' : Space} {s' : Shape} {e' : EltTy} {srcw : Memref sig .tc sp' s' e'} {hsrc hdst}
    {α : Type} {kk : PUnit → Prog 𝕋 α} {Q : α → sProp 𝕄} :
    iprop(ctx m K ∗ XFL m c s ∗ OW c l) ⊢ iprop(((XR m c s ∗ OW c l) -∗ WP c (kk ⟨⟩) Q)
      -∗ WP c (Prog.lift (.waitDma2 lsem0 srcw xtM hsrc hdst) >>= kk) Q) := by
  rw [lift_bind]
  unfold XFL XR
  iintro ⟨#Hx, ⟨%D, HF, HD⟩, HO⟩ Hk
  iapply (wp_copied m K c (lv_free c (by decide)) rfl) $$ [HF HO]
  · iframe HF HO Hx
  iintro ⟨H, HV, HO⟩
  ispecialize HD $$ H
  icases HD with ⟨H1, H2⟩
  iapply Hk
  iframe

theorem loadX (c : Dev nD) (s : ℕ) {hl} {α : Type} {kk : (S256x2048.Idx → Elt F .f32) → Prog 𝕋 α} {Q : α → sProp 𝕄} :
    XR m c s ⊢ iprop((XR m c s -∗ WP c (kk (xch m c s)) Q)
      -∗ WP c (Prog.lift (.load xtM (Rect.unit (s := S256x2048) ![0, 0] S256x2048.size inb_S256x2048_S256x2048_0_0).toLoadRect hl) >>= kk) Q) := by
  rw [lift_bind]
  unfold XR
  iintro ⟨H, HP, HV⟩ Hk
  iapply (wp_load 𝒱₀ (c : Thread nD τ) none Set.univ (m := xtM) (Finset.subset_univ _)) $$ H; iintro H
  rw [show xtM.view.readAt (Elt F) (Rect.unit (s := S256x2048) ![0, 0] S256x2048.size inb_S256x2048_S256x2048_0_0).toLoadRect (xch m c s) = xch m c s
    from Memref.readAt_unit_zero (Elt F) cc0_scratch2 hz2 inb_S256x2048_S256x2048_0_0 (xch m c s)]
  iapply Hk
  iframe

/-! ## The send buffer and the queue -/

def SB (c : Dev nD) (n : ℕ) (w : FVec F S1x256x2048 .bf16) : sProp 𝕄 :=
  iprop(∃ f : Buf (Elt F) ((c : Thread nD τ).loc cc0_scratch1), ⌜(sbS n).view.read (Elt F) f = w⌝
    ∗ ((c : Thread nD τ).loc cc0_scratch1) ↦[(sbS n).view.set]{fullShare} f)
def SBe (c : Dev nD) (n : ℕ) : sProp 𝕄 :=
  iprop(∃ f : Buf (Elt F) ((c : Thread nD τ).loc cc0_scratch1), ((c : Thread nD τ).loc cc0_scratch1) ↦[(sbS n).view.set]{fullShare} f)
def RQ (c : Dev nD) (n : ℕ) (w : FVec F S1x256x2048 .bf16) : sProp 𝕄 :=
  iprop(∃ f : Buf (Elt F) ((c : Thread nD τ).loc cc0_scratch0), ⌜(rqS n).view.read (Elt F) f = w⌝
    ∗ ((c : Thread nD τ).loc cc0_scratch0) ↦[(rqS n).view.set]{fullShare} f)

theorem loadS (c : Dev nD) (n : ℕ) {hl} {α : Type} {kk : (S1x256x2048.Idx → Elt F .bf16) → Prog 𝕋 α} {Q : α → sProp 𝕄} :
    SBe c n ⊢ iprop((∀ x, SBe c n -∗ WP c (kk x) Q) -∗ WP c (Prog.lift (.load sbM (sbR n).toLoadRect hl) >>= kk) Q) := by
  rw [lift_bind]
  unfold SBe
  iintro ⟨%f, H⟩ Hk
  iapply (wp_load_rect 𝒱₀ (c : Thread nD τ) none Set.univ (m := sbM) (r := sbR n) (S := (sbS n).view.set) (fun _ h => h)) $$ H; iintro H
  iapply Hk
  iexists _; iexact H

theorem storeS (c : Dev nD) (n : ℕ) {w : FVec F S1x256x2048 .bf16} {hx hm} {α : Type} {kk : PUnit → Prog 𝕋 α} {Q : α → sProp 𝕄} :
    SBe c n ⊢ iprop((SB c n w -∗ WP c (kk ⟨⟩) Q) -∗ WP c (Prog.lift (.store sbM (sbR n) w Finset.univ hx hm) >>= kk) Q) := by
  rw [lift_bind]
  unfold SBe SB
  iintro ⟨%f, H⟩ Hk
  iapply (wp_store 𝒱₀ (c : Thread nD τ) none Set.univ (m := sbM) (r := sbR n) (Mk := Finset.univ) (S := (sbS n).view.set) (fun _ h => h)) $$ H; iintro H
  iapply Hk
  iexists _
  isplitr; rotate_left; · iexact H
  ipureintro
  exact View.read_write_univ (v := (sbS n).view) f w

theorem loadQ (c : Dev nD) (n : ℕ) {w : FVec F S1x256x2048 .bf16} {hl} {α : Type} {kk : (S1x256x2048.Idx → Elt F .bf16) → Prog 𝕋 α} {Q : α → sProp 𝕄} :
    RQ c n w ⊢ iprop((RQ c n w -∗ WP c (kk w) Q) -∗ WP c (Prog.lift (.load rqM (rqR n).toLoadRect hl) >>= kk) Q) := by
  rw [lift_bind]
  unfold RQ
  iintro ⟨%f, %hf, H⟩ Hk
  iapply (wp_load_rect 𝒱₀ (c : Thread nD τ) none Set.univ (m := rqM) (r := rqR n) (S := (rqS n).view.set) (fun _ h => h)) $$ H; iintro H
  rw [show (rqM.access (rqR n)).read (Elt F) f = w from hf]
  iapply Hk
  iexists _
  isplitr; · ipureintro; exact hf
  iexact H

/-- What a squeezed view writes of what a squeezed view reads. -/
theorem read_write_reshape {sp sp' : Space} {κ κ' : Kind} {s s' : Shape} {e : EltTy} (v : View sig κ sp s e) (v' : View sig κ' sp' s e)
    (h : s'.numel = s.numel) (f : v.ty.Contents (Elt F)) (g : v'.ty.Contents (Elt F)) :
    v.read (Elt F) ((v.reshape s' h).write (Elt F) f ((v'.reshape s' h).read (Elt F) g) Finset.univ) = v'.read (Elt F) g := by
  funext x
  obtain ⟨y, rfl⟩ := (Shape.reshapeEquiv h).surjective x
  exact congrFun (View.read_write_univ (v := v.reshape s' h) f ((v'.reshape s' h).read (Elt F) g)) y

theorem left_peer : ∀ (c : Dev nD) (k : Fin 19), k.val < 3 → left (peer c k) = c := by decide +kernel
theorem has_low : ∀ (c : Dev nD) (k : Fin 19), k.val < 6 → has c k = true := by decide +kernel
theorem hasR_low : ∀ (c : Dev nD) (k : Fin 19), k.val < 6 → hasR c k = true := by decide +kernel

/-- A running sum sent on. -/
theorem sendQ (c : Dev nD) (k : Fin 19) (h3 : k.val < 3) {l : List Ob} {dv : Dev nD} (hd : dv = peer c k)
    {sS sR : DmaSem sig} (hS : sS = sSem k) (hR : sR = rSem k) (hN : (rqV k.val).view.amount (SemLoc.dma sR) = amt k)
    {hsc hsrc hdst hsem} {α : Type} {kk : PUnit → Prog 𝕋 α} {Q : α → sProp 𝕄} :
    iprop(ctx m K ∗ SB c k.val (acc m k.val c) ∗ snd0 c k ∗ OW c (.xf k :: l))
      ⊢ iprop(((snd1 c k ∗ OW c l) -∗ WP c (kk ⟨⟩) Q)
          -∗ WP c (Prog.lift (.enqueueDma (sbV k.val) (.remote (Dev.tc dv : Thread nD τ) (rqV k.val) (.dma sS) hsc)
              (.dma sR) hsrc hdst hsem) >>= kk) Q) := by
  subst hd
  have hk := has_low c k (by omega)
  rw [lift_bind]
  unfold SB snd0 landP
  rw [when_pos hk, if_pos h3]
  iintro ⟨#Hx, ⟨%fs, %hfs, Hs⟩, ⟨⟨HT, ⟨%fd, Hd⟩⟩, HA⟩, HO⟩ Hk
  iapply (wp_start m K c (peer c k) k rfl hk hS hR (src := sbV k.val) (dst := rqV k.val) (kk := kk) hN
    (fs := fs) (fd := fd) (q := fullShare) ?_ ?_) $$ [Hs Hd HT HA HO]
  · unfold sendPay
    rw [if_pos h3, View.set_reshape]
    iintro H; iexists _; iexact H
  · unfold recvPay
    rw [if_pos h3, View.set_reshape]
    iintro H; iexists _
    isplitr; rotate_left; · iexact H
    ipureintro
    rw [left_peer c k h3, ← hfs]
    exact read_write_reshape (rqS k.val).view (sbS k.val).view _ fd fs
  · rw [View.set_reshape, View.set_reshape]
    iframe Hx Hs Hd HT HA HO
  · iexact Hk

theorem snd2_SBe {c : Dev nD} {k : Fin 19} (h3 : k.val < 3) : (snd2 c k : sProp 𝕄) ⊢ iprop(semVal (sndC c k) 0 ∗ SBe c k.val) := by
  unfold snd2 sendPay SBe
  rw [when_pos (has_low c k (by omega)), if_pos h3]
theorem rcv1_RQ {c : Dev nD} {k : Fin 19} (h3 : k.val < 3) : rcv1 m c k ⊢ iprop(semVal (rcvC c k) 0 ∗ RQ c k.val (acc m k.val (left c))) := by
  unfold rcv1 recvPay RQ
  rw [when_pos (hasR_low c k (by omega)), if_pos h3]

/-- The wait for a landing, at the head of a program. -/
theorem waitR (c : Dev nD) (k : Fin 19) (hk : hasR c k = true) {l : List Ob} (hl : ∀ o ∈ l, klev k < o.lev)
    {sp sp' : Space} {s s' : Shape} {e e' : EltTy} {κ' : Kind} {srcw : Memref sig .tc sp' s' e'} {dstw : Memref sig κ' sp s e}
    {hsrc : srcw.view.WordExact} {hdst : dstw.view.WordExact} {sm : DmaSem sig} (hS : sm = rSem k)
    {α : Type} {kk : PUnit → Prog 𝕋 α} {Q : α → sProp 𝕄} (hN : dstw.view.dmaCredit = amt k) :
    iprop(ctx m K ∗ rcv0 c k ∗ OW c l)
      ⊢ iprop(((rcv1 m c k ∗ OW c l) -∗ WP c (kk ⟨⟩) Q) -∗ WP c (Prog.lift (.waitDma2 sm srcw dstw hsrc hdst) >>= kk) Q) :=
  wp_waitR m K c k hk hl hS hN

end Cert.KernelIdeal.Norm
-- ==== Proof.KernelIdeal.Parts.lean ====
/-
# The parts of the body that spread and normalize

A specification for each part of the body from the first transfer across `x` on.
-/
module

public import proofs.«01_k».proof.Proof.KernelIdeal.Steps

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ
local notation "𝕋" => TpuEff nD τ sig (Elt F) Λ₀ (Proc.tc : Proc τ)

variable (m : (ℓ : Loc nD τ sig) → Buf (Elt F) ℓ)

variable (K : Dev nD × Option (Fin 19 ⊕ Fin 19) → ℕ)

abbrev o41 : List Ob := [.xf 17, .xf 18]
abbrev o40 : List Ob := .xf 10 :: .xf 15 :: .xf 16 :: .xf 8 :: .xf 11 :: o41
abbrev o39 : List Ob := .xf 12 :: .xf 6 :: .xf 9 :: .xf 13 :: .xf 14 :: .xf 7 :: o40

theorem part39 (c : Dev nD) (v2 v5 v8 v17 v360 : BitVec 32) {S : Finset ℕ} {q1 q2 q3 q4 : PosShare TreeShare} :
    iprop(ctx m K ∗ NS m c S ∗ (src m c 12 q1 ∗ src m c 6 q2 ∗ src m c 9 q3 ∗ src m c 12 q4)
        ∗ (snd0 c 12 ∗ snd0 c 6 ∗ snd0 c 9 ∗ snd0 c 13 ∗ snd0 c 14 ∗ snd0 c 7) ∗ rcv0 c 6 ∗ rcv0 c 9 ∗ OW c o39)
      ⊢ WP c (atArgs (k0_part39 (F := F)) c v2 v5 v8 v17 (gam m c) v360) (fun _ => iprop(NS m c (covS c 12 S)
        ∗ (snd1 c 12 ∗ snd1 c 6 ∗ snd1 c 9 ∗ snd1 c 13 ∗ snd1 c 14 ∗ snd1 c 7) ∗ semVal (rcvC c 6) 0 ∗ semVal (rcvC c 9) 0
        ∗ src m c 10 fullShare.right.left ∗ src m c 13 fullShare.right.right ∗ src m c 14 fullShare.right.right ∗ OW c o40)) := by
  rw [k0_part39_eq_skeleton]
  unfold k0_part39_skel atArgs
  beta_reduce
  rw [src_pos m (k := 12) (q := q4) rfl, covS_pos (k := 12) rfl]
  iintro ⟨#Hx, HN, ⟨W1, W2, W3, W4⟩, ⟨S12, S6, S9, S13, S14, S7⟩, R6, R9, HO⟩
  iapply (send m K c 12 rfl (by decide) rfl (dev12_eq c) (off5_eq c) rfl rfl rfl) $$ [W1 S12 HO]
  · iframe W1 S12 HO Hx
  iintro ⟨S12, HO⟩
  iapply (g_send m K c 6 (cond5_iff c) (by decide) rfl (dev13_eq c) (off6_eq c) rfl rfl rfl) $$ [W2 S6 HO]
  · iframe W2 S6 HO Hx
  iintro ⟨S6, HO⟩
  iapply (g_send m K c 9 (cond6_iff c) (by decide) rfl (dev14_eq c) (off7_eq c) rfl rfl rfl) $$ [W3 S9 HO]
  · iframe W3 S9 HO Hx
  iintro ⟨S9, HO⟩
  iapply (norm_loop m K c (sRow_mod c 12) k0_t1_loop k0_t1_ok rfl _ (fun t S => trip m K c (trip_mod (sRow_mod c 12)) (off8_eq c t) (k0_off8_inb c t) _)) $$ [HN W4 HO]
  · iframe HN W4 HO Hx
  iintro ⟨HN, HO⟩
  iapply (g_fwd m K c 6 13 7 (cond7_iff c) (by decide) fwd13 (by decide) rfl rfl rfl (l := .xf 14 :: .xf 7 :: o40) (dev15_eq c) (off9_eq c) rfl rfl rfl
    (fun h hr => by rw [k0_part2_eq_skeleton]; exact part_waitR m K c 6 hr (by decide) rfl rfl)) $$ [R6 S13 HO]
  · iframe R6 S13 HO Hx
  iintro ⟨V6, S13, W7, W13, HO⟩
  iapply (g_fwd m K c 9 14 10 (cond8_iff c) (by decide) fwd14 (by decide) rfl rfl rfl (l := .xf 7 :: o40) (dev16_eq c) (off10_eq c) rfl rfl rfl
    (fun h hr => by rw [k0_part3_eq_skeleton]; exact part_waitR m K c 9 hr (by decide) rfl rfl)) $$ [R9 S14 HO]
  · iframe R9 S14 HO Hx
  iintro ⟨V9, S14, W10, W14, HO⟩
  iapply (g_send m K c 7 (cond9_iff c) (by decide) rfl (dev17_eq c) (off11_eq c) rfl rfl rfl) $$ [W7 S7 HO]
  · iframe W7 S7 HO Hx
  iintro ⟨S7, HO⟩
  iapply WP_ret
  iframe

set_option maxHeartbeats 1000000 in
theorem part40 (c : Dev nD) (v2 v5 v8 : BitVec 32) {S : Finset ℕ} :
    iprop(ctx m K ∗ NS m c S ∗ (src m c 10 fullShare.right.left ∗ src m c 13 fullShare.right.right ∗ src m c 14 fullShare.right.right)
        ∗ (snd0 c 10 ∗ snd0 c 15 ∗ snd0 c 16 ∗ snd0 c 8 ∗ snd0 c 11) ∗ rcv0 c 7 ∗ rcv0 c 10 ∗ OW c o40)
      ⊢ WP c (atArgs (k0_part40 (F := F)) c v2 v5 v8 (gam m c)) (fun _ => iprop(NS m c (covS c 15 (covS c 14 (covS c 13 S)))
        ∗ (snd1 c 10 ∗ snd1 c 15 ∗ snd1 c 16 ∗ snd1 c 8 ∗ snd1 c 11) ∗ semVal (rcvC c 7) 0 ∗ semVal (rcvC c 10) 0
        ∗ src m c 16 fullShare.right.right ∗ OW c o41)) := by
  rw [k0_part40_eq_skeleton]
  unfold k0_part40_skel atArgs
  beta_reduce
  iintro ⟨#Hx, HN, ⟨W10, W13, W14⟩, ⟨S10, S15, S16, S8, S11⟩, R7, R10, HO⟩
  iapply (g_send m K c 10 (cond10_iff c) (by decide) rfl (dev18_eq c) (off12_eq c) rfl rfl rfl) $$ [W10 S10 HO]
  · iframe W10 S10 HO Hx
  iintro ⟨S10, HO⟩
  iapply (g_loop m K c 13 (cond11_iff c) rfl rfl (fun h hk t S => trip m K c (trip_mod (sRow_mod c 13)) (off13_eq c hk t) (k0_off13_inb c t h) _)) $$ [HN W13 HO]
  · iframe HN W13 HO Hx
  iintro ⟨HN, HO⟩
  iapply (g_loop m K c 14 (cond12_iff c) rfl rfl (fun h hk t S => trip m K c (trip_mod (sRow_mod c 14)) (off14_eq c hk t) (k0_off14_inb c t h) _)) $$ [HN W14 HO]
  · iframe HN W14 HO Hx
  iintro ⟨HN, HO⟩
  iapply (g_fwd m K c 7 15 8 (cond13_iff c) (by decide) fwd15 (by decide) rfl rfl rfl (l := .xf 16 :: .xf 8 :: .xf 11 :: o41) (dev19_eq c) (off15_eq c) rfl rfl rfl
    (fun h hr => by rw [k0_part6_eq_skeleton]; exact part_waitR m K c 7 hr (by decide) rfl rfl)) $$ [R7 S15 HO]
  · iframe R7 S15 HO Hx
  iintro ⟨V7, S15, W8, W15, HO⟩
  iapply (g_fwd m K c 10 16 11 (cond14_iff c) (by decide) fwd16 (by decide) rfl rfl rfl (l := .xf 8 :: .xf 11 :: o41) (dev20_eq c) (off16_eq c) rfl rfl rfl
    (fun h hr => by rw [k0_part7_eq_skeleton]; exact part_waitR m K c 10 hr (by decide) rfl rfl)) $$ [R10 S16 HO]
  · iframe R10 S16 HO Hx
  iintro ⟨V10, S16, W11, W16, HO⟩
  iapply (g_send m K c 8 (cond15_iff c) (by decide) rfl (dev21_eq c) (off17_eq c) rfl rfl rfl) $$ [W8 S8 HO]
  · iframe W8 S8 HO Hx
  iintro ⟨S8, HO⟩
  iapply (g_send m K c 11 (cond16_iff c) (by decide) rfl (dev22_eq c) (off18_eq c) rfl rfl rfl) $$ [W11 S11 HO]
  · iframe W11 S11 HO Hx
  iintro ⟨S11, HO⟩
  iapply (g_loop m K c 15 (cond17_iff c) rfl rfl (fun h hk t S => trip m K c (trip_mod (sRow_mod c 15)) (off19_eq c hk t) (k0_off19_inb c t h) _)) $$ [HN W15 HO]
  · iframe HN W15 HO Hx
  iintro ⟨HN, HO⟩
  iapply WP_ret
  iframe

set_option maxHeartbeats 1000000 in
theorem part41 (c : Dev nD) (v2 v5 v8 v424 : BitVec 32) {S : Finset ℕ} :
    iprop(ctx m K ∗ NS m c S ∗ src m c 16 fullShare.right.right ∗ (snd0 c 17 ∗ snd0 c 18) ∗ rcv0 c 8 ∗ rcv0 c 11 ∗ OW c o41)
      ⊢ WP c (atArgs (k0_part41 (F := F)) c v2 v5 v8 (gam m c) v424) (fun _ => iprop(NS m c (covS c 18 (covS c 17 (covS c 16 S)))
        ∗ (snd1 c 17 ∗ snd1 c 18) ∗ semVal (rcvC c 8) 0 ∗ semVal (rcvC c 11) 0 ∗ OW c [])) := by
  rw [k0_part41_eq_skeleton]
  unfold k0_part41_skel atArgs
  beta_reduce
  iintro ⟨#Hx, HN, W16, ⟨S17, S18⟩, R8, R11, HO⟩
  iapply (g_loop m K c 16 (cond18_iff c) rfl rfl (fun h hk t S => trip m K c (trip_mod (sRow_mod c 16)) (off20_eq c hk t) (k0_off20_inb c t h) _)) $$ [HN W16 HO]
  · iframe HN W16 HO Hx
  iintro ⟨HN, HO⟩
  iapply (g_fwd m K c 8 17 17 (cond19_iff c) (by decide) fwd17 (by decide) rfl rfl rfl (l := [.xf 18]) (dev23_eq c) (off21_eq c) rfl rfl rfl
    (fun h hr => by rw [k0_part10_eq_skeleton]; exact part_waitR m K c 8 hr (by decide) rfl rfl)) $$ [R8 S17 HO]
  · iframe R8 S17 HO Hx
  iintro ⟨V8, S17, -, W17, HO⟩
  iapply (g_fwd m K c 11 18 18 (cond20_iff c) (by decide) fwd18 (by decide) rfl rfl rfl (l := []) (dev24_eq c) (off22_eq c) rfl rfl rfl
    (fun h hr => by rw [k0_part11_eq_skeleton]; exact part_waitR m K c 11 hr (by decide) rfl rfl)) $$ [R11 S18 HO]
  · iframe R11 S18 HO Hx
  iintro ⟨V11, S18, -, W18, HO⟩
  iapply (g_loop m K c 17 (cond21_iff c) rfl rfl (fun h hk t S => trip m K c (trip_mod (sRow_mod c 17)) (off23_eq c hk t) (k0_off23_inb c t h) _)) $$ [HN W17 HO]
  · iframe HN W17 HO Hx
  iintro ⟨HN, HO⟩
  iapply (g_loop m K c 18 (cond22_iff c) rfl rfl (fun h hk t S => trip m K c (trip_mod (sRow_mod c 18)) (off24_eq c hk t) (k0_off24_inb c t h) _)) $$ [HN W18 HO]
  · iframe HN W18 HO Hx
  iintro ⟨HN, HO⟩
  iapply WP_ret
  iframe

set_option maxHeartbeats 1000000 in
theorem part42 (c : Dev nD) (v2 v5 v8 : BitVec 32) {S : Finset ℕ} :
    iprop(ctx m K ∗ NS m c S ∗ (rcv0 c 12 ∗ rcv0 c 13 ∗ rcv0 c 14) ∗ (snd1 c 12 ∗ snd1 c 13 ∗ snd1 c 14 ∗ snd1 c 6) ∗ OW c [])
      ⊢ WP c (atArgs (k0_part42 (F := F)) c v2 v5 v8 (gam m c)) (fun _ => iprop(NS m c (covR c 14 (covR c 13 (covR c 12 S)))
        ∗ (semVal (rcvC c 12) 0 ∗ semVal (rcvC c 13) 0 ∗ semVal (rcvC c 14) 0)
        ∗ (snd2 c 12 ∗ snd2 c 13 ∗ snd2 c 14 ∗ snd2 c 6) ∗ OW c [])) := by
  rw [k0_part42_eq_skeleton]
  unfold k0_part42_skel atArgs
  beta_reduce
  iintro ⟨#Hx, HN, ⟨R12, R13, R14⟩, ⟨S12, S13, S14, S6⟩, HO⟩
  iapply (part_rcv m K c 12 rfl (by decide) rfl rfl rfl rfl
    (fun t S => trip m K c (trip_mod (rRow_mod c 12)) (off26_eq c t) (k0_off26_inb c t) _)) $$ [HN R12 HO]
  · iframe HN R12 HO Hx
  iintro ⟨HN, V12, HO⟩
  iapply (waitS m K c 12 rfl rfl rfl) $$ [S12 HO]
  · iframe S12 HO Hx
  iintro ⟨S12, HO⟩
  iapply (g_across m K c 13 (S := (covR c 12 S)) (cond23_iff c) (across_has c 13 (by decide))
    (fun h hr => by
      rw [k0_part16_eq_skeleton]
      iintro H
      iapply (part_rcv m K c 13 hr (by decide) rfl rfl rfl rfl
        (fun t S => trip m K c (trip_mod (rRow_mod c 13)) (off28_eq c ((cond23_iff c).mp h) t) (k0_off28_inb c t h) _)) $$ H
      iintro H
      iapply (WP_ret c) $$ H)
    (fun h x hk => by rcases x; exact waitS m K c 13 hk rfl rfl (kk := fun _ => _))) $$ [HN R13 S13 HO]
  · iframe HN R13 S13 HO Hx
  iintro ⟨HN, V13, S13, HO⟩
  iapply (g_across m K c 14 (S := (covR c 13 (covR c 12 S))) (cond24_iff c) (across_has c 14 (by decide))
    (fun h hr => by
      rw [k0_part18_eq_skeleton]
      iintro H
      iapply (part_rcv m K c 14 hr (by decide) rfl rfl rfl rfl
        (fun t S => trip m K c (trip_mod (rRow_mod c 14)) (off31_eq c ((cond24_iff c).mp h) t) (k0_off31_inb c t h) _)) $$ H
      iintro H
      iapply (WP_ret c) $$ H)
    (fun h x hk => by rcases x; exact waitS m K c 14 hk rfl rfl (kk := fun _ => _))) $$ [HN R14 S14 HO]
  · iframe HN R14 S14 HO Hx
  iintro ⟨HN, V14, S14, HO⟩
  iapply (g_waitS m K c 6 (cond25_iff c) rfl (fun _ => rfl)) $$ [S6 HO]
  · iframe S6 HO Hx
  iintro ⟨S6, HO⟩
  iapply WP_ret
  iframe

set_option maxHeartbeats 1000000 in
theorem part43 (c : Dev nD) (v2 v5 v8 : BitVec 32) (v484 : BitVec 1) {S : Finset ℕ} :
    iprop(ctx m K ∗ NS m c S ∗ (rcv0 c 15 ∗ rcv0 c 16 ∗ rcv0 c 17 ∗ rcv0 c 18)
        ∗ (snd1 c 9 ∗ snd1 c 15 ∗ snd1 c 16 ∗ snd1 c 7 ∗ snd1 c 10 ∗ snd1 c 17 ∗ snd1 c 18 ∗ snd1 c 8) ∗ OW c [])
      ⊢ WP c (atArgs (k0_part43 (F := F)) c v2 v5 v8 (gam m c) v484) (fun _ => iprop(NS m c (covR c 18 (covR c 17 (covR c 16 (covR c 15 S))))
        ∗ (semVal (rcvC c 15) 0 ∗ semVal (rcvC c 16) 0 ∗ semVal (rcvC c 17) 0 ∗ semVal (rcvC c 18) 0)
        ∗ (snd2 c 9 ∗ snd2 c 15 ∗ snd2 c 16 ∗ snd2 c 7 ∗ snd2 c 10 ∗ snd2 c 17 ∗ snd2 c 18 ∗ snd2 c 8) ∗ OW c [])) := by
  rw [k0_part43_eq_skeleton]
  unfold k0_part43_skel atArgs
  beta_reduce
  iintro ⟨#Hx, HN, ⟨R15, R16, R17, R18⟩, ⟨S9, S15, S16, S7, S10, S17, S18, S8⟩, HO⟩
  iapply (g_waitS m K c 9 (cond26_iff c) rfl (fun _ => rfl)) $$ [S9 HO]
  · iframe S9 HO Hx
  iintro ⟨S9, HO⟩
  iapply (g_across m K c 15 (S := S) (cond27_iff c) (across_has c 15 (by decide))
    (fun h hr => by
      rw [k0_part20_eq_skeleton]
      iintro H
      iapply (part_rcv m K c 15 hr (by decide) rfl rfl rfl rfl
        (fun t S => trip m K c (trip_mod (rRow_mod c 15)) (off36_eq c ((cond27_iff c).mp h) t) (k0_off36_inb c t h) _)) $$ H
      iintro H
      iapply (WP_ret c) $$ H)
    (fun h x hk => by rcases x; exact waitS m K c 15 hk rfl rfl (kk := fun _ => _))) $$ [HN R15 S15 HO]
  · iframe HN R15 S15 HO Hx
  iintro ⟨HN, V15, S15, HO⟩
  iapply (g_across m K c 16 (S := (covR c 15 S)) (cond28_iff c) (across_has c 16 (by decide))
    (fun h hr => by
      rw [k0_part22_eq_skeleton]
      iintro H
      iapply (part_rcv m K c 16 hr (by decide) rfl rfl rfl rfl
        (fun t S => trip m K c (trip_mod (rRow_mod c 16)) (off39_eq c ((cond28_iff c).mp h) t) (k0_off39_inb c t h) _)) $$ H
      iintro H
      iapply (WP_ret c) $$ H)
    (fun h x hk => by rcases x; exact waitS m K c 16 hk rfl rfl (kk := fun _ => _))) $$ [HN R16 S16 HO]
  · iframe HN R16 S16 HO Hx
  iintro ⟨HN, V16, S16, HO⟩
  iapply (g_waitS m K c 7 (cond29_iff c) rfl (fun _ => rfl)) $$ [S7 HO]
  · iframe S7 HO Hx
  iintro ⟨S7, HO⟩
  iapply (g_waitS m K c 10 (cond30_iff c) rfl (fun _ => rfl)) $$ [S10 HO]
  · iframe S10 HO Hx
  iintro ⟨S10, HO⟩
  iapply (g_across m K c 17 (S := (covR c 16 (covR c 15 S))) (cond31_iff c) (across_has c 17 (by decide))
    (fun h hr => by
      rw [k0_part24_eq_skeleton]
      iintro H
      iapply (part_rcv m K c 17 hr (by decide) rfl rfl rfl rfl
        (fun t S => trip m K c (trip_mod (rRow_mod c 17)) (off44_eq c ((cond31_iff c).mp h) t) (k0_off44_inb c t h) _)) $$ H
      iintro H
      iapply (WP_ret c) $$ H)
    (fun h x hk => by rcases x; exact waitS m K c 17 hk rfl rfl (kk := fun _ => _))) $$ [HN R17 S17 HO]
  · iframe HN R17 S17 HO Hx
  iintro ⟨HN, V17, S17, HO⟩
  iapply (g_across m K c 18 (S := (covR c 17 (covR c 16 (covR c 15 S)))) (cond32_iff c) (across_has c 18 (by decide))
    (fun h hr => by
      rw [k0_part26_eq_skeleton]
      iintro H
      iapply (part_rcv m K c 18 hr (by decide) rfl rfl rfl rfl
        (fun t S => trip m K c (trip_mod (rRow_mod c 18)) (off47_eq c ((cond32_iff c).mp h) t) (k0_off47_inb c t h) _)) $$ H
      iintro H
      iapply (WP_ret c) $$ H)
    (fun h x hk => by rcases x; exact waitS m K c 18 hk rfl rfl (kk := fun _ => _))) $$ [HN R18 S18 HO]
  · iframe HN R18 S18 HO Hx
  iintro ⟨HN, V18, S18, HO⟩
  iapply (g_waitS m K c 8 (cond33_iff c) rfl (fun _ => rfl)) $$ [S8 HO]
  · iframe S8 HO Hx
  iintro ⟨S8, HO⟩
  iapply WP_ret
  iframe

end Cert.KernelIdeal.Norm
-- ==== Proof.KernelIdeal.Meet.lean ====
/-
# The barrier at the start

A device tells each of its neighbours that they may write to it, and hands over the places that they write; it waits for the same of
them.
-/
module

public import proofs.«01_k».proof.Proof.KernelIdeal.Reduce
public import proofs.«01_k».proof.Proof.KernelIdeal.Parts

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ
local notation "𝕋" => TpuEff nD τ sig (Elt F) Λ₀ (Proc.tc : Proc τ)

variable (m : (ℓ : Loc nD τ sig) → Buf (Elt F) ℓ)

variable (K : Dev nD × Option (Fin 19 ⊕ Fin 19) → ℕ)

/-- What a signal spends. -/
def bsig (c : Dev nD) (d : Fin 5) : sProp 𝕄 := when (hasB c d) iprop(dutyTok ER (barC (bpeer c d)) 0 d ∗ barPay (bpeer c d) d)
/-- The own barrier cell, before the wait and after it. -/
def bar0 (c : Dev nD) : sProp 𝕄 := iprop(atPos ER (barC c) 0 ∅ 0 ∗ cred (tallyAt (barC c) () (barN c)))
def lands (c : Dev nD) : sProp 𝕄 := bigSep Finset.univ fun k : Fin 19 => when (has c k) (landP (peer c k) k)
def bar1 (c : Dev nD) : sProp 𝕄 := iprop(semVal (barC c) 0 ∗ lands c)

theorem bsignal (c : Dev nD) (d : Fin 5) (hb : hasB c d = true) {l : List Ob} {dv : Dev nD} (hd : dv = bpeer c d)
    {α : Type} {kk : PUnit → Prog 𝕋 α} {Q : α → sProp 𝕄} :
    iprop(ctx m K ∗ bsig c d ∗ OW c (.bar d :: l))
      ⊢ iprop((OW c l -∗ WP c (kk ⟨⟩) Q) -∗ WP c (semSignalWord dv barS 1#32 >>= kk) Q) := by
  subst hd
  rw [show (semSignalWord (bpeer c d) barS 1#32 >>= kk : Prog 𝕋 α)
    = .op (.semSignal ((bpeer c d), .tc) barS (1#32).toInt) kk from rfl]
  have hO : owedL c (Ob.bar d :: l) = owedL c l + tallyAt (barC (bpeer c d)) () 1 := by
    rw [owedL_cons_pos (o := .bar d) hb]; rfl
  unfold bsig OW
  rw [when_pos hb, hO]
  iintro ⟨#Hx, ⟨HT, HP⟩, ⟨%W, HO⟩⟩ Hk
  ihave #HB := (ctx_bar m K (bpeer c d)) $$ Hx
  icases HB with ⟨#I1, #R1⟩
  iapply (Rounds.wp_signal 𝒱₀ (ER : Emb UB 𝕄) (sched m) (c : Thread nD τ) none (dst := (bpeer c d : Thread nD τ)) (κ := K (bpeer c d, none)) (d := d)
    (by rw [duties_bar, Finset.mem_filter, bfrm_bpeer]; exact ⟨Finset.mem_univ _, hb⟩)
    ((amount_bar m _ _).trans (by decide)) () (owedL c l) rfl) $$ [HT HP HO]
  · rw [payload_bar]
    iframe HT HP HO I1 R1
  iintro HO
  iapply Hk
  iexists W; iexact HO

theorem g_bsignal (c : Dev nD) (d : Fin 5) {cond : Prop} [Decidable cond] (hb : cond ↔ hasB c d = true) {l : List Ob} {dv : cond → Dev nD}
    (hd : ∀ h, dv h = bpeer c d) {α : Type} {kk : Prog 𝕋 α} {Q : α → sProp 𝕄} :
    iprop(ctx m K ∗ bsig c d ∗ OW c (.bar d :: l))
      ⊢ iprop((OW c l -∗ WP c kk Q) -∗ WP c (if h : cond then semSignalWord (dv h) barS 1#32 >>= fun _ => kk else kk) Q) := by
  refine wp_guard c hb (fun hc hk => bsignal m K c d hk (hd hc) (kk := fun _ => kk)) fun hk => ?_
  iintro ⟨-, -, HO⟩
  unfold OW
  rw [owedL_cons_neg (o := .bar d) hk]
  iexact HO

/-- The places handed over by the duties of a barrier are those of all kinds that are sent. -/
theorem pays_lands (c : Dev nD) :
    (bigSep ((sched m).duties (barC c) 0 \ ∅) (fun d => (sched m).payload (barC c) 0 d)) ⊢ lands c := by
  rw [Finset.sdiff_empty, duties_bar, show (fun d => (sched m).payload (barC c) 0 d) = barPay c from funext fun d => payload_bar m c d]
  unfold lands
  have e : (Finset.univ.filter fun k : Fin 19 => has c k = true)
      = (Finset.univ.filter fun d => hasB (bfrm c d) d = true).biUnion (gset c) := by
    ext k
    simp only [Finset.mem_filter, Finset.mem_univ, true_and, Finset.mem_biUnion, gset]
    exact ⟨fun h => ⟨grp k, hasB_of_has c k h, rfl, h⟩, fun ⟨_, _, _, h⟩ => h⟩
  have h1 : (bigSep (Finset.univ.filter fun d => hasB (bfrm c d) d = true) (barPay c) : sProp 𝕄)
      = bigSep (Finset.univ.filter fun d => hasB (bfrm c d) d = true) fun d => bigSep (gset c d) fun k => landP (peer c k) k :=
    bigSep_congr fun d hd => by
      unfold barPay
      refine bigSep_congr fun k hk => ?_
      simp only [gset, Finset.mem_filter] at hk
      rw [← hk.2.1, bfrm_grp]
  have h2 : (bigSep (Finset.univ.filter fun k : Fin 19 => has c k = true) (fun k => landP (peer c k) k) : sProp 𝕄)
      = bigSep Finset.univ fun k : Fin 19 => when (has c k) (landP (peer c k) k) := bigSep_filter _ _ _
  rw [h1, ← h2, e]
  exact bigSep_biUnion _ _

theorem bwait (c : Dev nD) {n : ℕ} (hn : barN c = n) {l : List Ob} (hl : ∀ o ∈ l, 1 < o.lev)
    {α : Type} {kk : PUnit → Prog 𝕋 α} {Q : α → sProp 𝕄} :
    iprop(ctx m K ∗ bar0 c ∗ OW c l)
      ⊢ iprop(((bar1 c ∗ OW c l) -∗ WP c (kk ⟨⟩) Q) -∗ WP c (.op (.semWait barS n) kk) Q) := by
  unfold bar0 bar1 OW
  iintro ⟨#Hx, ⟨HA, HC⟩, ⟨%W, HO⟩⟩ Hk
  ihave #HB := (ctx_bar m K c) $$ Hx
  icases HB with ⟨#I1, #R1⟩
  iapply (Rounds.wp_wait_rest_token 𝒱₀ (ER : Emb UB 𝕄) (sched m) (c : Thread nD τ) none
    (κ := K (c, none)) (wpE_semWait_eq 𝒱₀ (c : Thread nD τ) none Set.univ) (Set.mem_univ _) () (O := owedL c l) (W := W)
    (R := 0) (m := 0) (T := ∅) (by rw [Nat.zero_add, expect_bar, hn])) $$ [HA HC HO]
  · rw [← hn]
    iframe HA HC HO I1
    iapply (ctx_mayWait m K 1 (le_of_eq (lv_bar c)) hl) $$ Hx
  · iintro ⟨HO, HA, -, HP⟩
    ihave HP := (pays_lands m c) $$ HP
    imod (Rounds.cell_close (ER : Emb UB 𝕄) (sched m) (Set.mem_univ (K (c, none))) (fun h => h) (R := 0 + 1)
      (duties_later m (barC c))) $$ [HA] with HV
    · isplitr; · iexact I1
      iexact HA
    iapply Hk
    isplitl [HV HP]
    · isplitl [HV] <;> iassumption
    · iexists _; iexact HO

/-- The two waits, of which one happens. -/
theorem bwaits (c : Dev nD) {C4 C5 : Prop} [Decidable C4] [Decidable C5] (h4 : C4 ↔ barN c = 4) (h5 : C5 ↔ ¬ barN c = 4)
    {l : List Ob} (hl : ∀ o ∈ l, 1 < o.lev)
    {α : Type} {kk : Prog 𝕋 α} {Q : α → sProp 𝕄} :
    iprop(ctx m K ∗ bar0 c ∗ OW c l)
      ⊢ iprop(((bar1 c ∗ OW c l) -∗ WP c kk Q) -∗ WP c (if h : C4 then semWaitWord barS 4#32 >>= fun _ =>
            (if h : C5 then semWaitWord barS 5#32 >>= fun _ => kk else kk)
          else (if h : C5 then semWaitWord barS 5#32 >>= fun _ => kk else kk)) Q) := by
  by_cases h : barN c = 4
  · rw [dif_pos (h4.mpr h), dif_neg (fun x => h5.mp x h)]
    exact bwait m K c h hl (kk := fun _ => kk)
  · rw [dif_neg (fun x => h (h4.mp x)), dif_pos (h5.mpr h)]
    have h' : barN c = 5 := by
      unfold barN at h ⊢
      by_cases hz : cz c = 0 ∨ cz c = 3
      · rw [if_pos hz] at h; exact absurd rfl h
      · exact if_neg hz
    exact bwait m K c h' hl (kk := fun _ => kk)

abbrev oS : List Ob := .xf 0 :: .xf 1 :: .xf 2 :: .xf 3 :: .xf 4 :: .xf 5 :: o39

/-- The coordinate along `z` as the program computes it. -/
def zw (c : Dev nD) : BitVec 32 := Scalar.remsi (Scalar.divsi (Dev.word c) 1#32) 4#32

theorem part27 (c : Dev nD) :
    iprop(ctx m K ∗ (bsig c 0 ∗ bsig c 1) ∗ OW c (.bar 0 :: .bar 1 :: .bar 2 :: .bar 3 :: .bar 4 :: oS))
      ⊢ WP c (atArgs (k0_part27 (F := F))) (fun x => iprop(⌜x.1 = c ∧ x.2.2.2.1 = zw c ∧ x.2.2.2.2.2.2.1 = SemArray.scalar (sig.barrier 0 rfl)⌝
          ∗ OW c (.bar 2 :: .bar 3 :: .bar 4 :: oS))) := by
  rw [k0_part27_eq_skeleton]
  unfold k0_part27_skel atArgs
  beta_reduce
  iintro ⟨#Hx, ⟨B0, B1⟩, HO⟩
  rw [lift_bind]
  rw [show ∀ kk : Dev nD → Prog 𝕋 _, ∀ Q : _ → sProp 𝕄, WP c (.op .deviceId kk) Q = WP c (kk c) Q from fun kk Q => wp_deviceId ..]
  iapply (bsignal m K c 0 rfl (dev1_eq c)) $$ [B0 HO]
  · iframe B0 HO Hx
  iintro HO
  iapply (bsignal m K c 1 rfl (dev2_eq c)) $$ [B1 HO]
  · iframe B1 HO Hx
  iintro HO
  iapply (WP_ret c)
  isplitr
  · ipureintro; exact ⟨rfl, rfl, rfl⟩
  · iexact HO

theorem part28 (c : Dev nD) (v2 v5 v17 v31 : BitVec 32) :
    iprop(ctx m K ∗ (bsig c 2 ∗ bsig c 3 ∗ bsig c 4) ∗ bar0 c ∗ XF m c ∗ OW c (.bar 2 :: .bar 3 :: .bar 4 :: oS))
      ⊢ WP c (atArgs (k0_part28 (F := F)) c v2 v5 (zw c) v17 (SemArray.scalar (sig.barrier 0 rfl)) v31) (fun _ => iprop(bar1 c ∗ XFL m c 0 ∗ OW c oS)) := by
  rw [k0_part28_eq_skeleton]
  unfold k0_part28_skel atArgs
  beta_reduce
  iintro ⟨#Hx, ⟨B2, B3, B4⟩, HB, HX, HO⟩
  iapply (bsignal m K c 2 rfl (dev3_eq c)) $$ [B2 HO]
  · iframe B2 HO Hx
  iintro HO
  iapply (g_bsignal m K c 3 (by revert c; decide +kernel) (dev4_eq c)) $$ [B3 HO]
  · iframe B3 HO Hx
  iintro HO
  iapply (g_bsignal m K c 4 (by revert c; decide +kernel) (dev5_eq c)) $$ [B4 HO]
  · iframe B4 HO Hx
  iintro HO
  iapply (bwaits m K c (by revert c; decide +kernel) (by revert c; decide +kernel) (l := oS) (by decide)) $$ [HB HO]
  · iframe HB HO Hx
  iintro ⟨HB, HO⟩
  iapply (fetch m c 0 (off1_eq c)) $$ HX
  iintro HX
  iapply (WP_ret c)
  iframe

end Cert.KernelIdeal.Norm
-- ==== Proof.KernelIdeal.Chunk.lean ====
/-
# The parts of the body that sum along `y` and gather the sums

A specification for each part of the body between the barrier and the first transfer across `x`.
-/
module

public import proofs.«01_k».proof.Proof.KernelIdeal.Meet

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ
local notation "𝕋" => TpuEff nD τ sig (Elt F) Λ₀ (Proc.tc : Proc τ)

variable (m : (ℓ : Loc nD τ sig) → Buf (Elt F) ℓ)

variable (K : Dev nD × Option (Fin 19 ⊕ Fin 19) → ℕ)

/-! ## The reduced chunk, copied and sent -/

theorem mk_self : ∀ c : Dev nD, mk (cx c) (cy c) (cz c) = c := by decide +kernel

/-- The last running sum is the device's own chunk of the reduced array. -/
theorem sb_chunk (c : Dev nD) {f : Buf (Elt F) ((c : Thread nD τ).loc cc0_scratch1)} (hf : (sbS 1).view.read (Elt F) f = acc3 m c) :
    (sbV 1).view.read (Elt F) f = chunk (sRow c 3) (Wfin m) := by
  funext j
  have e1 := congrFun (Memref.read_squeeze_slice (Val := Elt F) sbM (sbR 1) (fun _ => rfl) squeezes_S1x256x2048_S256x2048
    shapeCasts_S1x256x2048_S256x2048 f) j
  refine e1.trans ?_
  rw [show sbM.view.readAt (Elt F) (sbR 1).toLoadRect f = acc3 m c from hf]
  refine (congrArg (shapeCast S256x2048 _ shapeCasts_S1x256x2048_S256x2048) (eq_ix2 (n0 := 256) (n1 := 2048) j)).trans
    ((shapeCast_1ab_ab_apply (acc3 m c) shapeCasts_S1x256x2048_S256x2048 (j 0) (j 1)).trans ?_)
  have hj : (j 0).val < 256 := (j 0).isLt
  have hx : cx c < 2 := by have := c.isLt; show c.val / 16 < 2; have : c.val < 32 := this; omega
  have hy : cy c < 4 := Nat.mod_lt _ (by decide)
  have hz : cz c < 4 := Nat.mod_lt _ (by decide)
  have hr : sRow c 3 = 2048 * cz c + 1024 * cx c + 256 * ((cy c + 9) % 4) := rfl
  have h0 : (sRow c 3 + (j 0).val) % 8192 = sRow c 3 + (j 0).val := Nat.mod_eq_of_lt (by omega)
  unfold chunk Wfin
  have hm : mk ((sRow c 3 + (j 0).val) % 8192 / 1024) ((sRow c 3 + (j 0).val) % 8192 / 256 + 3) ((sRow c 3 + (j 0).val) % 8192 / 2048) = c := by
    refine Eq.trans (Fin.ext ?_) (mk_self c)
    rw [h0, hr]
    show 16 * _ + 4 * _ + _ = 16 * _ + 4 * _ + _
    omega
  show _ = acc3 m (mk ((sRow c 3 + (j 0).val) % 8192 / 1024) ((sRow c 3 + (j 0).val) % 8192 / 256 + 3) ((sRow c 3 + (j 0).val) % 8192 / 2048)) _
  rw [hm]
  refine congrArg (acc3 m c) ?_
  have hv : (sRow c 3 + (j 0).val) % 8192 % 256 = (j 0).val := by rw [h0, hr]; omega
  funext a
  refine Fin.ext ?_
  match a with
  | ⟨0, _⟩ => rfl
  | ⟨1, _⟩ => exact hv.symm
  | ⟨2, _⟩ => rfl

/-- The send buffer's second slot at the last running sum, one half of it; and holding anything. -/
def SBh (c : Dev nD) (q : PosShare TreeShare) (w : FVec F S1x256x2048 .bf16) : sProp 𝕄 :=
  iprop(∃ f : Buf (Elt F) ((c : Thread nD τ).loc cc0_scratch1), ⌜(sbS 1).view.read (Elt F) f = w⌝
    ∗ ((c : Thread nD τ).loc cc0_scratch1) ↦[(sbS 1).view.set]{q} f)
def SBhe (c : Dev nD) (q : PosShare TreeShare) : sProp 𝕄 :=
  iprop(∃ f : Buf (Elt F) ((c : Thread nD τ).loc cc0_scratch1), ((c : Thread nD τ).loc cc0_scratch1) ↦[(sbS 1).view.set]{q} f)
def OwnW (c : Dev nD) : sProp 𝕄 :=
  iprop(∃ f : Buf (Elt F) ((c : Thread nD τ).loc main_v1_1), ((c : Thread nD τ).loc main_v1_1) ↦[rows (sRow c 3) 256]{fullShare} f)
/-- The copy of the own chunk under way. -/
def CF (c : Dev nD) : sProp 𝕄 := iprop(∃ D : sProp 𝕄, Transfers.Flight EC (c : Thread nD τ) (.dma lsem1) () N256 D
  ∗ (D -∗ (wP m c fullShare (sRow c 3) 256 ∗ SBhe c fullShare.left)))

theorem copyOwn (c : Dev nD) {off : Fin 2 → ℕ} (ho : off = ![sRow c 3, 0])
    {h : ∀ a, off a + S256x2048.size a ≤ S8192x2048.size a} {hsrc hdst hsem}
    {α : Type} {kk : PUnit → Prog 𝕋 α} {Q : α → sProp 𝕄} :
    iprop(SB c 1 (acc3 m c) ∗ OwnW c ∗ semVal ((c : Thread nD τ), .dma lsem1) 0) ⊢ iprop(((CF m c ∗ SBh c fullShare.right (acc3 m c)) -∗ WP c (kk ⟨⟩) Q)
      -∗ WP c (Prog.lift (.enqueueDma (sbV 1) (.here (wM.slice (Rect.unit (s := S8192x2048) off S256x2048.size h) (fun _ => rfl))) (.dma lsem1) hsrc hdst hsem) >>= kk) Q) := by
  rw [lift_bind]
  unfold SB OwnW CF SBh SBhe wP
  iintro ⟨⟨%fs, %hfs, Hs⟩, ⟨%fd, Hd⟩, HV⟩ Hk
  icases (pointsTo_share (PosShare.mem_left_op_right fullShare)).1 $$ Hs with ⟨H1, H2⟩
  rw [← w_set (n := 256) ho h (fun _ => rfl), ← View.set_reshape (sbS 1).view squeezes_S1x256x2048_S256x2048.numel_eq]
  iapply (Transfers.wp_dmaLocal EC 𝒱₀ (c : Thread nD τ) none (src := sbV 1) (dst := wM.slice (Rect.unit (s := S8192x2048) off S256x2048.size h) (fun _ => rfl))
    (Sd := (wM.slice (Rect.unit (s := S8192x2048) off ![256, 2048] h) (fun _ => rfl)).view.set) () N256 rfl N256_pos (fun _ h => h)) $$ [H1 Hd HV]
  · iframe
  iintro HF
  iapply Hk
  isplitr [H2]
  · iexists _
    isplitl [HF]; · iexact HF
    iintro ⟨H, HS⟩
    isplitl [H]
    · iapply (Entails.of_eq (pointsTo_congr (write_on (wM.slice (Rect.unit (s := S8192x2048) off ![256, 2048] h) (fun _ => rfl)).view fd (Wfin m) _
        (fun x => (congrFun (sb_chunk m c hfs) x).trans (congrFun (w_read ho h (fun _ => rfl) (Wfin m)) x).symm)))) $$ H
    · iexists _; iexact HS
  · iexists _
    isplitr; rotate_left; · iexact H2
    ipureintro; exact hfs

theorem copiedOwn (c : Dev nD) {l : List Ob} {sp sp' : Space} {s s' : Shape} {e e' : EltTy} {κ' : Kind} {srcw : Memref sig .tc sp' s' e'}
    {dstw : Memref sig κ' sp s e} {hsrc : srcw.view.WordExact} {hdst : dstw.view.WordExact} (hN : dstw.view.dmaCredit = N256)
    {α : Type} {kk : PUnit → Prog 𝕋 α} {Q : α → sProp 𝕄} :
    iprop(ctx m K ∗ CF m c ∗ OW c l) ⊢ iprop(((wP m c fullShare (sRow c 3) 256 ∗ SBhe c fullShare.left ∗ semVal ((c : Thread nD τ), .dma lsem1) 0 ∗ OW c l) -∗ WP c (kk ⟨⟩) Q)
      -∗ WP c (Prog.lift (.waitDma2 lsem1 srcw dstw hsrc hdst) >>= kk) Q) := by
  rw [lift_bind]
  unfold CF
  iintro ⟨#Hx, ⟨%D, HF, HD⟩, HO⟩ Hk
  iapply (wp_copied m K c (lv_free c (by decide)) hN) $$ [HF HO]
  · iframe HF HO Hx
  iintro ⟨H, HV, HO⟩
  ispecialize HD $$ H
  icases HD with ⟨H1, H2⟩
  iapply Hk
  iframe

/-- The own chunk sent to the next device along `y`. -/
theorem send3 (c : Dev nD) {l : List Ob} {dv : Dev nD} (hd : dv = peer c 3) {off : Fin 2 → ℕ} (ho : off = ![sRow c 3, 0])
    {h : ∀ a, off a + S256x2048.size a ≤ S8192x2048.size a} {sS sR : DmaSem sig} (hS : sS = sSem 3) (hR : sR = rSem 3)
    (hN : amt 3 = sig.dmaCredit .tc (Kind.table .tc .hbm) (main_v1_1 : Ref sig .tc).idx ⟨2, ![256, 2048]⟩ .bf16)
    {hsc hsrc hdst hsem} {α : Type} {kk : PUnit → Prog 𝕋 α} {Q : α → sProp 𝕄} :
    iprop(ctx m K ∗ SBh c fullShare.right (acc3 m c) ∗ snd0 c 3 ∗ OW c (.xf 3 :: l))
      ⊢ iprop(((snd1 c 3 ∗ OW c l) -∗ WP c (kk ⟨⟩) Q)
          -∗ WP c (Prog.lift (.enqueueDma (sbV 1)
              (.remote (Dev.tc dv : Thread nD τ) (wM.slice (Rect.unit (s := S8192x2048) off S256x2048.size h) (fun _ => rfl)) (.dma sS) hsc)
              (.dma sR) hsrc hdst hsem) >>= kk) Q) := by
  subst hd
  rw [lift_bind]
  unfold SBh snd0 landP
  rw [when_pos (has_low c 3 (by decide)), if_neg (by decide)]
  iintro ⟨#Hx, ⟨%fs, %hfs, Hs⟩, ⟨⟨HT, ⟨%fd, Hd⟩⟩, HA⟩, HO⟩ Hk
  rw [rRow_peer, show nRow 3 = 256 from rfl, ← w_set (n := 256) ho h (fun _ => rfl)]
  iapply (wp_start m K c (peer c 3) 3 rfl (has_low c 3 (by decide)) hS hR (src := sbV 1) (kk := kk) hN.symm
    (fs := fs) (fd := fd) (q := fullShare.right) ?_ ?_) $$ [Hs Hd HT HA HO]
  · unfold sendPay
    rw [if_neg (by decide), if_pos (by decide), View.set_reshape]
    iintro H; iexists _; iexact H
  · unfold recvPay
    rw [if_neg (by decide), rRow_peer]
    refine Entails.of_eq (Eq.trans (pointsTo_congr ?_) (congrArg (fun S => pointsTo _ S _ _) (w_set (n := 256) ho h (fun _ => rfl))))
    exact write_on (wM.slice (Rect.unit (s := S8192x2048) off ![256, 2048] h) (fun _ => rfl)).view fd (Wfin m) _
        (fun x => (congrFun (sb_chunk m c hfs) x).trans (congrFun (w_read ho h (fun _ => rfl) (Wfin m)) x).symm)
  · rw [View.set_reshape]
    iframe Hx Hs Hd HT HA HO
  · iexact Hk

theorem snd2_3 {c : Dev nD} : (snd2 c 3 : sProp 𝕄) ⊢ iprop(semVal (sndC c 3) 0 ∗ SBhe c fullShare.right) := by
  unfold snd2 sendPay SBhe
  rw [when_pos (has_low c 3 (by decide)), if_neg (by decide), if_pos (by decide)]
theorem rcv1_low {c : Dev nD} {k : Fin 19} (h3 : 3 ≤ k.val) (h6 : k.val < 6) : rcv1 m c k ⊢ iprop(semVal (rcvC c k) 0 ∗ wP m c fullShare (rRow c k) 256) := by
  unfold rcv1 recvPay wP
  rw [when_pos (hasR_low c k h6), if_neg (by omega), show nRow k = 256 from if_pos h6]

end Cert.KernelIdeal.Norm
-- ==== Proof.KernelIdeal.Sum.lean ====
/-
# The sum along `y`, part by part

A specification for each part of the body between the barrier and the first transfer across `x`.
-/
module

public import proofs.«01_k».proof.Proof.KernelIdeal.Chunk

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ
local notation "𝕋" => TpuEff nD τ sig (Elt F) Λ₀ (Proc.tc : Proc τ)

variable (m : (ℓ : Loc nD τ sig) → Buf (Elt F) ℓ)

variable (K : Dev nD × Option (Fin 19 ⊕ Fin 19) → ℕ)

abbrev oS5 : List Ob := .xf 5 :: o39
abbrev oS4 : List Ob := .xf 4 :: oS5
abbrev oS3 : List Ob := .xf 3 :: oS4
abbrev oS2 : List Ob := .xf 2 :: oS3
abbrev oS1 : List Ob := .xf 1 :: oS2

theorem snd2_0 {c : Dev nD} : (snd2 c 0 : sProp 𝕄) ⊢ iprop(semVal (sndC c 0) 0 ∗ SBe c 0) := snd2_SBe (k := 0) (by decide)
theorem snd2_1 {c : Dev nD} : (snd2 c 1 : sProp 𝕄) ⊢ iprop(semVal (sndC c 1) 0 ∗ SBe c 1) := snd2_SBe (k := 1) (by decide)
theorem snd2_2 {c : Dev nD} : (snd2 c 2 : sProp 𝕄) ⊢ iprop(semVal (sndC c 2) 0 ∗ SBe c 0) := snd2_SBe (k := 2) (by decide)
theorem rcv1_0 {c : Dev nD} : rcv1 m c 0 ⊢ iprop(semVal (rcvC c 0) 0 ∗ RQ c 0 (acc0 m (left c))) := rcv1_RQ m (k := 0) (by decide)
theorem rcv1_1 {c : Dev nD} : rcv1 m c 1 ⊢ iprop(semVal (rcvC c 1) 0 ∗ RQ c 1 (acc1 m (left c))) := rcv1_RQ m (k := 1) (by decide)
theorem rcv1_2 {c : Dev nD} : rcv1 m c 2 ⊢ iprop(semVal (rcvC c 2) 0 ∗ RQ c 2 (acc2 m (left c))) := rcv1_RQ m (k := 2) (by decide)

theorem part29 (c : Dev nD) (v2 v5 v8 v11 v17 : BitVec 32) :
    iprop(ctx m K ∗ XFL m c 0 ∗ SBe c 0 ∗ snd0 c 0 ∗ OW c oS)
      ⊢ WP c (atArgs (k0_part29 (F := F)) c v2 v5 v8 v11 v17) (fun _ => iprop(XFL m c 1 ∗ snd1 c 0 ∗ OW c oS1)) := by
  rw [k0_part29_eq_skeleton]
  unfold k0_part29_skel atArgs
  beta_reduce
  iintro ⟨#Hx, HX, HS, S0, HO⟩
  iapply (fetched m K c 0 (l := oS)) $$ [HX HO]
  · iframe HX HO Hx
  iintro ⟨HX, HO⟩
  iapply (loadX m c 0) $$ HX
  iintro HX
  iapply (loadS c 0) $$ HS
  iintro %_ HS
  iapply (storeS c 0) $$ HS
  iintro HS
  iapply (sendQ m K c 0 (by decide) (dev6_eq c) rfl rfl rfl (l := oS1)) $$ [HS S0 HO]
  · iframe HS S0 HO Hx
  iintro ⟨S0, HO⟩
  ihave HX := (XR_idle m c 0) $$ HX
  iapply (fetch m c 1 (off2_eq0 c)) $$ HX
  iintro HX
  iapply (WP_ret c)
  iframe

theorem part30 (c : Dev nD) (v2 v8 v11 : BitVec 32) :
    iprop(ctx m K ∗ XFL m c 1 ∗ snd1 c 0 ∗ rcv0 c 0 ∗ OW c oS1)
      ⊢ WP c (atArgs (k0_part30 (F := F)) c v2 v8 v11) (fun x => iprop(⌜x = k0_pay16 (xch m c 1) (acc0 m (left c))⌝ ∗ XR m c 1 ∗ SBe c 0
        ∗ (semVal (sndC c 0) 0 ∗ semVal (rcvC c 0) 0) ∗ RQ c 0 (acc0 m (left c)) ∗ OW c oS1)) := by
  rw [k0_part30_eq_skeleton]
  unfold k0_part30_skel atArgs
  beta_reduce
  iintro ⟨#Hx, HX, S0, R0, HO⟩
  iapply (waitS m K c 0 rfl rfl rfl (l := oS1)) $$ [S0 HO]
  · iframe S0 HO Hx
  iintro ⟨S0, HO⟩
  iapply (waitR m K c 0 (hasR_low c 0 (by decide)) (by decide) rfl rfl (l := oS1)) $$ [R0 HO]
  · iframe R0 HO Hx
  iintro ⟨R0, HO⟩
  iapply (fetched m K c 1 (l := oS1)) $$ [HX HO]
  · iframe HX HO Hx
  iintro ⟨HX, HO⟩
  icases (snd2_0 (c := c)) $$ S0 with ⟨V0, HS⟩
  icases (rcv1_0 m (c := c)) $$ R0 with ⟨V1, HQ⟩
  iapply (loadX m c 1) $$ HX
  iintro HX
  iapply (loadQ c 0) $$ HQ
  iintro HQ
  iapply (WP_ret c)
  isplitr; · ipureintro; rfl
  iframe

theorem part31 (c : Dev nD) (v2 v5 v8 v11 v17 : BitVec 32) :
    iprop(ctx m K ∗ XR m c 1 ∗ SBe c 1 ∗ snd0 c 1 ∗ OW c oS1)
      ⊢ WP c (atArgs (k0_part31 (F := F)) c v2 v5 v8 v11 v17 (k0_pay16 (xch m c 1) (acc0 m (left c)))) (fun _ => iprop(XFL m c 2 ∗ snd1 c 1 ∗ OW c oS2)) := by
  rw [k0_part31_eq_skeleton]
  unfold k0_part31_skel atArgs
  beta_reduce
  iintro ⟨#Hx, HX, HS, S1, HO⟩
  iapply (loadS c 1) $$ HS
  iintro %_ HS
  iapply (storeS c 1) $$ HS
  iintro HS
  iapply (sendQ m K c 1 (by decide) (dev7_eq c) rfl rfl rfl (l := oS2)) $$ [HS S1 HO]
  · iframe HS S1 HO Hx
  iintro ⟨S1, HO⟩
  ihave HX := (XR_idle m c 1) $$ HX
  iapply (fetch m c 2 (off2_eq1 c)) $$ HX
  iintro HX
  iapply (WP_ret c)
  iframe

theorem part32 (c : Dev nD) (v2 v5 v8 v11 : BitVec 32) :
    iprop(ctx m K ∗ XFL m c 2 ∗ SBe c 0 ∗ snd1 c 1 ∗ rcv0 c 1 ∗ OW c oS2)
      ⊢ WP c (atArgs (k0_part32 (F := F)) c v2 v5 v8 v11) (fun _ => iprop(XR m c 2 ∗ SBe c 1 ∗ SB c 0 (acc2 m c)
        ∗ (semVal (sndC c 1) 0 ∗ semVal (rcvC c 1) 0) ∗ RQ c 1 (acc1 m (left c)) ∗ OW c oS2)) := by
  rw [k0_part32_eq_skeleton]
  unfold k0_part32_skel atArgs
  beta_reduce
  iintro ⟨#Hx, HX, HB, S1, R1, HO⟩
  iapply (waitS m K c 1 rfl rfl rfl (l := oS2)) $$ [S1 HO]
  · iframe S1 HO Hx
  iintro ⟨S1, HO⟩
  iapply (waitR m K c 1 (hasR_low c 1 (by decide)) (by decide) rfl rfl (l := oS2)) $$ [R1 HO]
  · iframe R1 HO Hx
  iintro ⟨R1, HO⟩
  iapply (fetched m K c 2 (l := oS2)) $$ [HX HO]
  · iframe HX HO Hx
  iintro ⟨HX, HO⟩
  icases (snd2_1 (c := c)) $$ S1 with ⟨V0, HS⟩
  icases (rcv1_1 m (c := c)) $$ R1 with ⟨V1, HQ⟩
  iapply (loadX m c 2) $$ HX
  iintro HX
  iapply (loadQ c 1) $$ HQ
  iintro HQ
  iapply (loadS c 0) $$ HB
  iintro %_ HB
  iapply (storeS c 0) $$ HB
  iintro HB
  iapply (WP_ret c)
  iframe HX HS HB V0 V1 HQ HO

theorem part33 (c : Dev nD) (v2 v8 v11 v17 v177 c1 : BitVec 32) :
    iprop(ctx m K ∗ XR m c 2 ∗ SB c 0 (acc2 m c) ∗ snd0 c 2 ∗ OW c oS2)
      ⊢ WP c (atArgs (k0_part33 (F := F)) c v2 v8 v11 v17 v177 c1) (fun _ => iprop(XFL m c 3 ∗ SBe c 0 ∗ semVal (sndC c 2) 0 ∗ OW c oS3)) := by
  rw [k0_part33_eq_skeleton]
  unfold k0_part33_skel atArgs
  beta_reduce
  iintro ⟨#Hx, HX, HS, S2, HO⟩
  iapply (sendQ m K c 2 (by decide) (dev8_eq c) rfl rfl rfl (l := oS3)) $$ [HS S2 HO]
  · iframe HS S2 HO Hx
  iintro ⟨S2, HO⟩
  ihave HX := (XR_idle m c 2) $$ HX
  iapply (fetch m c 3 (off2_eq2 c)) $$ HX
  iintro HX
  iapply (waitS m K c 2 rfl rfl rfl (l := oS3)) $$ [S2 HO]
  · iframe S2 HO Hx
  iintro ⟨S2, HO⟩
  icases (snd2_2 (c := c)) $$ S2 with ⟨V0, HS⟩
  iapply (WP_ret c)
  iframe HX HS V0 HO

theorem part34 (c : Dev nD) (v2 v5 v8 v11 v17 : BitVec 32) :
    iprop(ctx m K ∗ XFL m c 3 ∗ SBe c 1 ∗ rcv0 c 2 ∗ OW c oS3)
      ⊢ WP c (atArgs (k0_part34 (F := F)) c v2 v5 v8 v11 v17) (fun _ => iprop(XR m c 3 ∗ SB c 1 (acc3 m c)
        ∗ semVal (rcvC c 2) 0 ∗ RQ c 2 (acc2 m (left c)) ∗ OW c oS3)) := by
  rw [k0_part34_eq_skeleton]
  unfold k0_part34_skel atArgs
  beta_reduce
  iintro ⟨#Hx, HX, HB, R2, HO⟩
  iapply (waitR m K c 2 (hasR_low c 2 (by decide)) (by decide) rfl rfl (l := oS3)) $$ [R2 HO]
  · iframe R2 HO Hx
  iintro ⟨R2, HO⟩
  iapply (fetched m K c 3 (l := oS3)) $$ [HX HO]
  · iframe HX HO Hx
  iintro ⟨HX, HO⟩
  icases (rcv1_2 m (c := c)) $$ R2 with ⟨V1, HQ⟩
  iapply (loadX m c 3) $$ HX
  iintro HX
  iapply (loadQ c 2) $$ HQ
  iintro HQ
  iapply (loadS c 1) $$ HB
  iintro %_ HB
  iapply (storeS c 1) $$ HB
  iintro HB
  iapply (WP_ret c)
  iframe HX HB V1 HQ HO

theorem part35 (c : Dev nD) (v2 v5 v8 v11 v17 : BitVec 32) :
    iprop(ctx m K ∗ SB c 1 (acc3 m c) ∗ OwnW c ∗ semVal ((c : Thread nD τ), .dma lsem1) 0 ∗ snd0 c 3 ∗ OW c oS3)
      ⊢ WP c (atArgs (k0_part35 (F := F)) c v2 v5 v8 v11 v17) (fun _ => iprop(CF m c ∗ SBhe c fullShare.right ∗ semVal (sndC c 3) 0 ∗ OW c oS4)) := by
  rw [k0_part35_eq_skeleton]
  unfold k0_part35_skel atArgs
  beta_reduce
  iintro ⟨#Hx, HS, HW, HV, S3, HO⟩
  iapply (copyOwn m c (off3_eq c)) $$ [HS HW HV]
  · iframe HS HW HV
  iintro ⟨HC, HS⟩
  iapply (send3 m K c (dev9_eq c) (off4_eq0 c) rfl rfl rfl (l := oS4)) $$ [HS S3 HO]
  · iframe HS S3 HO Hx
  iintro ⟨S3, HO⟩
  iapply (waitS m K c 3 rfl rfl rfl (l := oS4)) $$ [S3 HO]
  · iframe S3 HO Hx
  iintro ⟨S3, HO⟩
  icases (snd2_3 (c := c)) $$ S3 with ⟨V3, HS⟩
  iapply (WP_ret c)
  iframe

/-- One half of landed rows. -/
theorem wP_halves (c : Dev nD) (q : PosShare TreeShare) (lo n : ℕ) : wP m c q lo n ⊢ iprop(wP m c q.left lo n ∗ wP m c q.right lo n) :=
  (pointsTo_share (PosShare.mem_left_op_right q)).1
theorem src_of (c : Dev nD) (k : Fin 19) (q : PosShare TreeShare) {lo n : ℕ} (h : has c k = true → sRow c k = lo) (hn : nRow k = n) :
    wP m c q lo n ⊢ src m c k q := by
  unfold src when
  by_cases hk : has c k = true
  · rw [if_pos hk, h hk, hn]
  · rw [if_neg hk]; iintro -; iempintro

theorem row4 : ∀ c : Dev nD, sRow c 4 = rRow c 3 := by decide +kernel
theorem row5 : ∀ c : Dev nD, sRow c 5 = rRow c 4 := by decide +kernel

theorem part36 (c : Dev nD) (v2 v5 v8 v11 v17 : BitVec 32) :
    iprop(ctx m K ∗ rcv0 c 3 ∗ snd0 c 4 ∗ OW c oS4)
      ⊢ WP c (atArgs (k0_part36 (F := F)) c v2 v5 v8 v11 v17) (fun _ => iprop(wP m c fullShare.left (rRow c 3) 256 ∗ semVal (rcvC c 3) 0
        ∗ snd1 c 4 ∗ OW c oS5)) := by
  rw [k0_part36_eq_skeleton]
  unfold k0_part36_skel atArgs
  beta_reduce
  iintro ⟨#Hx, R3, S4, HO⟩
  iapply (waitR m K c 3 (hasR_low c 3 (by decide)) (by decide) rfl rfl (l := oS4)) $$ [R3 HO]
  · iframe R3 HO Hx
  iintro ⟨R3, HO⟩
  icases (rcv1_low m (c := c) (k := 3) (by decide) (by decide)) $$ R3 with ⟨V3, HW⟩
  icases (wP_halves m c fullShare _ _) $$ HW with ⟨HL, HR⟩
  ihave HR := (src_of m c 4 fullShare.right (n := 256) (fun _ => row4 c) rfl) $$ HR
  iapply (send m K c 4 rfl (by decide) rfl (dev10_eq c) (off4_eq1 c) rfl rfl rfl (l := oS5)) $$ [HR S4 HO]
  · iframe HR S4 HO Hx
  iintro ⟨S4, HO⟩
  iapply (WP_ret c)
  iframe

theorem part37 (c : Dev nD) (v2 v5 v8 v11 v17 : BitVec 32) :
    iprop(ctx m K ∗ snd1 c 4 ∗ rcv0 c 4 ∗ snd0 c 5 ∗ OW c oS5)
      ⊢ WP c (atArgs (k0_part37 (F := F)) c v2 v5 v8 v11 v17) (fun _ => iprop(wP m c fullShare.left (rRow c 4) 256 ∗ (snd2 c 4 ∗ semVal (rcvC c 4) 0)
        ∗ snd1 c 5 ∗ OW c o39)) := by
  rw [k0_part37_eq_skeleton]
  unfold k0_part37_skel atArgs
  beta_reduce
  iintro ⟨#Hx, S4, R4, S5, HO⟩
  iapply (waitS m K c 4 rfl rfl rfl (l := oS5)) $$ [S4 HO]
  · iframe S4 HO Hx
  iintro ⟨S4, HO⟩
  iapply (waitR m K c 4 (hasR_low c 4 (by decide)) (by decide) rfl rfl (l := oS5)) $$ [R4 HO]
  · iframe R4 HO Hx
  iintro ⟨R4, HO⟩
  icases (rcv1_low m (c := c) (k := 4) (by decide) (by decide)) $$ R4 with ⟨V4, HW⟩
  icases (wP_halves m c fullShare _ _) $$ HW with ⟨HL, HR⟩
  ihave HR := (src_of m c 5 fullShare.right (n := 256) (fun _ => row5 c) rfl) $$ HR
  iapply (send m K c 5 rfl (by decide) rfl (dev11_eq c) (off4_eq2 c) rfl rfl rfl (l := o39)) $$ [HR S5 HO]
  · iframe HR S5 HO Hx
  iintro ⟨S5, HO⟩
  iapply (WP_ret c)
  iframe

/-- The four chunks of a device's own block. -/
theorem quarters : ∀ c : Dev nD, sRow c 3 = base c + 256 * ((cy c + 9) % 4) ∧ rRow c 3 = base c + 256 * ((cy c + 8) % 4)
    ∧ rRow c 4 = base c + 256 * ((cy c + 7) % 4) ∧ rRow c 5 = base c + 256 * ((cy c + 6) % 4) := by decide +kernel

theorem join4 (c : Dev nD) (q : PosShare TreeShare) :
    iprop(wP m c q (sRow c 3) 256 ∗ wP m c q (rRow c 3) 256 ∗ wP m c q (rRow c 4) 256 ∗ wP m c q (rRow c 5) 256) ⊢ wP m c q (base c) 1024 := by
  obtain ⟨e0, e1, e2, e3⟩ := quarters c
  unfold wP
  have hy : cy c < 4 := Nat.mod_lt _ (by decide)
  have h3 : Disjoint (rows (rRow c 4) 256) (rows (rRow c 5) 256) := Finset.disjoint_left.mpr fun i h h' => by
    rw [mem_rows] at h h'; omega
  have h2 : Disjoint (rows (rRow c 3) 256) (rows (rRow c 4) 256 ∪ rows (rRow c 5) 256) := Finset.disjoint_left.mpr fun i h h' => by
    rw [Finset.mem_union, mem_rows, mem_rows] at h'; rw [mem_rows] at h; omega
  have h1 : Disjoint (rows (sRow c 3) 256) (rows (rRow c 3) 256 ∪ (rows (rRow c 4) 256 ∪ rows (rRow c 5) 256)) := Finset.disjoint_left.mpr fun i h h' => by
    rw [Finset.mem_union, Finset.mem_union, mem_rows, mem_rows, mem_rows] at h'; rw [mem_rows] at h; omega
  have hu : rows (base c) 1024 = rows (sRow c 3) 256 ∪ (rows (rRow c 3) 256 ∪ (rows (rRow c 4) 256 ∪ rows (rRow c 5) 256)) := by
    ext i
    rw [Finset.mem_union, Finset.mem_union, Finset.mem_union, mem_rows, mem_rows, mem_rows, mem_rows, mem_rows]
    omega
  rw [hu]
  iintro ⟨H0, H1, H2, H3⟩
  iapply (pointsTo_union h1).2
  isplitl [H0]; · iexact H0
  iapply (pointsTo_union h2).2
  isplitl [H1]; · iexact H1
  iapply (pointsTo_union h3).2
  isplitl [H2] <;> iassumption

theorem row_base : ∀ c : Dev nD, sRow c 12 = base c ∧ (has c 6 = true → sRow c 6 = base c) ∧ (has c 9 = true → sRow c 9 = base c) := by decide +kernel

/-- A device's own block lent to the three transfers out of it, and kept for its own use. -/
theorem lend4 (c : Dev nD) (q : PosShare TreeShare) : wP m c q (base c) 1024
    ⊢ iprop(src m c 12 q.left ∗ src m c 6 q.right.left ∗ src m c 9 q.right.right.left ∗ src m c 12 q.right.right.right) := by
  obtain ⟨h12, h6, h9⟩ := row_base c
  iintro H
  icases (wP_halves m c (q) _ _) $$ H with ⟨H1, H⟩
  icases (wP_halves m c (q.right) _ _) $$ H with ⟨H2, H⟩
  icases (wP_halves m c (q.right.right) _ _) $$ H with ⟨H3, H4⟩
  isplitl [H1]; · iapply (src_of m c 12 _ (fun _ => h12) (n := 1024) rfl) $$ H1
  isplitl [H2]; · iapply (src_of m c 6 _ h6 (n := 1024) rfl) $$ H2
  isplitl [H3]; · iapply (src_of m c 9 _ h9 (n := 1024) rfl) $$ H3
  iapply (src_of m c 12 _ (fun _ => h12) (n := 1024) rfl) $$ H4

/-- The scale, staged. -/
def GA (c : Dev nD) : sProp 𝕄 := ((c : Thread nD τ).loc cc0_stg0_0) ↦{fullShare} m ((c : Thread nD τ).loc main_arg2)
theorem hz1 : (![0] : Fin 1 → ℕ) = fun _ => 0 := funext fun a => by fin_cases a; rfl

theorem part38 (c : Dev nD) (v2 v8 v11 : BitVec 32) :
    iprop(ctx m K ∗ snd1 c 5 ∗ rcv0 c 5 ∗ CF m c ∗ GA m c ∗ wP m c fullShare.left (rRow c 3) 256 ∗ wP m c fullShare.left (rRow c 4) 256 ∗ OW c o39)
      ⊢ WP c (atArgs (k0_part38 (F := F)) c v2 v8 v11) (fun x => iprop(⌜x.1 = gam m c⌝
        ∗ (src m c 12 fullShare.left.left ∗ src m c 6 fullShare.left.right.left ∗ src m c 9 fullShare.left.right.right.left ∗ src m c 12 fullShare.left.right.right.right)
        ∗ (snd2 c 5 ∗ semVal (rcvC c 5) 0) ∗ SBhe c fullShare.left ∗ semVal ((c : Thread nD τ), .dma lsem1) 0 ∗ GA m c ∗ OW c o39)) := by
  rw [k0_part38_eq_skeleton]
  unfold k0_part38_skel atArgs
  beta_reduce
  iintro ⟨#Hx, S5, R5, HC, HG, W3, W4, HO⟩
  iapply (waitS m K c 5 rfl rfl rfl (l := o39)) $$ [S5 HO]
  · iframe S5 HO Hx
  iintro ⟨S5, HO⟩
  iapply (waitR m K c 5 (hasR_low c 5 (by decide)) (by decide) rfl rfl (l := o39)) $$ [R5 HO]
  · iframe R5 HO Hx
  iintro ⟨R5, HO⟩
  iapply (copiedOwn m K c rfl (l := o39)) $$ [HC HO]
  · iframe HC HO Hx
  iintro ⟨W0, HS, HV, HO⟩
  icases (rcv1_low m (c := c) (k := 5) (by decide) (by decide)) $$ R5 with ⟨V5, W5⟩
  icases (wP_halves m c fullShare _ _) $$ W5 with ⟨W5, -⟩
  icases (wP_halves m c fullShare _ _) $$ W0 with ⟨W0, -⟩
  ihave HW := (join4 m c fullShare.left) $$ [W0 W3 W4 W5]
  · iframe
  ihave HW := (lend4 m c fullShare.left) $$ HW
  unfold GA
  rw [lift_bind]
  iapply (wp_load 𝒱₀ (c : Thread nD τ) none Set.univ (m := gM) (Finset.subset_univ _)) $$ HG; iintro HG
  rw [show gM.view.readAt (Elt F) (Rect.unit (s := S2048) ![0] S2048.size inb_S2048_S2048_0).toLoadRect (m ((c : Thread nD τ).loc main_arg2)) = m ((c : Thread nD τ).loc main_arg2)
    from Memref.readAt_unit_zero (Elt F) cc0_stg0_0 hz1 inb_S2048_S2048_0 (m ((c : Thread nD τ).loc main_arg2))]
  iapply (WP_ret c)
  isplitr; · ipureintro; rfl
  iframe

end Cert.KernelIdeal.Norm
-- ==== Proof.KernelIdeal.Body.lean ====
/-
# The whole body

The parts one after another, at a symbolic device.
-/
module

public import proofs.«01_k».proof.Proof.KernelIdeal.Sum

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ
local notation "𝕋" => TpuEff nD τ sig (Elt F) Λ₀ (Proc.tc : Proc τ)

variable (m : (ℓ : Loc nD τ sig) → Buf (Elt F) ℓ)

variable (K : Dev nD × Option (Fin 19 ⊕ Fin 19) → ℕ)

theorem fin19 (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ

/-- What a sender holds at the start: its tokens and its cell, not yet the place of the landing. -/
def snd00 (c : Dev nD) (k : Fin 19) : sProp 𝕄 := iprop(when (has c k) (toks c k) ∗ sA c k)

theorem sep_mid (A B C : sProp 𝕄) : iprop((A ∗ B) ∗ C) ⊢ iprop((A ∗ C) ∗ B) := by
  iintro ⟨⟨H1, H2⟩, H3⟩; iframe

theorem sep_last (A B C : sProp 𝕄) : iprop((A ∗ B) ∗ C) ⊢ iprop(A ∗ B) := by
  iintro ⟨⟨H1, H2⟩, H3⟩; iframe

theorem snds (c : Dev nD) : iprop((bigSep Finset.univ fun k : Fin 19 => snd00 c k) ∗ lands c) ⊢ (bigSep Finset.univ fun k : Fin 19 => snd0 c k : sProp 𝕄) := by
  unfold lands
  rw [← bigSep_sep']
  refine bigSep_mono fun k _ => ?_
  unfold snd00 snd0 when
  by_cases h : has c k = true
  · rw [if_pos h, if_pos h, if_pos h]
    exact sep_mid (F := F) _ _ _
  · rw [if_neg h, if_neg h, if_neg h]
    exact sep_last (F := F) _ _ _

theorem bar1_open (c : Dev nD) : (bar1 c : sProp 𝕄) ⊢ iprop(semVal (barC c) 0 ∗ lands c) := by
  unfold bar1; iintro H; iexact H

/-- A transfer's two cells back at zero. -/
def doneC (c : Dev nD) (k : Fin 19) : sProp 𝕄 := iprop(semVal (sndC c k) 0 ∗ semVal (rcvC c k) 0)
theorem snd2_done {c : Dev nD} {k : Fin 19} : (snd2 c k : sProp 𝕄) ⊢ semVal (sndC c k) 0 := by
  unfold snd2; iintro ⟨H, -⟩; iexact H

/-- All the chunks that the trips write. -/
def covAll (c : Dev nD) : Finset ℕ := covR c 18 (covR c 17 (covR c 16 (covR c 15 (covR c 14 (covR c 13 (covR c 12 (covS c 18 (covS c 17 (covS c 16 (covS c 15 (covS c 14 (covS c 13 (covS c 12 (∅))))))))))))))

abbrev oAll : List Ob := .bar 0 :: .bar 1 :: .bar 2 :: .bar 3 :: .bar 4 :: oS

def bodyStart (c : Dev nD) : sProp 𝕄 := iprop((bsig c 0 ∗ bsig c 1 ∗ bsig c 2 ∗ bsig c 3 ∗ bsig c 4) ∗ bar0 c ∗ XF m c ∗ (SBe c 0 ∗ SBe c 1) ∗ OwnW c
  ∗ semVal ((c : Thread nD τ), .dma lsem1) 0 ∗ NS m c ∅ ∗ GA m c ∗ (bigSep Finset.univ fun k : Fin 19 => snd00 c k)
  ∗ (bigSep Finset.univ fun k : Fin 19 => rcv0 c k) ∗ OW c oAll)

def bodyEnd (c : Dev nD) : sProp 𝕄 := iprop(semVal (barC c) 0 ∗ (bigSep Finset.univ fun k : Fin 19 => doneC c k) ∗ XF m c
  ∗ (SBe c 0 ∗ SBhe c fullShare.left ∗ SBhe c fullShare.right) ∗ (RQ c 0 (acc0 m (left c)) ∗ RQ c 1 (acc1 m (left c)) ∗ RQ c 2 (acc2 m (left c)))
  ∗ semVal ((c : Thread nD τ), .dma lsem1) 0 ∗ NS m c (covAll c) ∗ GA m c ∗ OW c [])

set_option maxHeartbeats 2000000 in
theorem body_run (c : Dev nD) : iprop(ctx m K ∗ bodyStart m c) ⊢ WP c (atArgs (cc0__body (F := F))) (fun _ => bodyEnd m c) := by
  unfold atArgs
  rw [cc0__body_eq_skeleton]
  unfold cc0__body_skel bodyStart
  iintro ⟨#Hx, ⟨B0, B1, B2, B3, B4⟩, HB, HX, ⟨P0, P1⟩, HW, HL, HN, HG, HS, HR, HO⟩
  ihave HR := (Entails.of_eq (fin19 (rcv0 c))) $$ HR
  icases HR with ⟨R0, R1, R2, R3, R4, R5, R6, R7, R8, R9, R10, R11, R12, R13, R14, R15, R16, R17, R18⟩
  iapply (wp_seq c (part27 m K c )) $$ [B0 B1 HO]
  · iframe B0 B1 HO Hx
  iintro %x ⟨%hx, HO⟩
  rcases x with ⟨d, v2, v5, v8, v11, v17, v18, v31⟩
  obtain ⟨hd, hz, hs⟩ := hx
  dsimp only at hd hz hs
  subst hd hz hs
  iapply (wp_seq d (part28 m K d _ _ _ _)) $$ [B2 B3 B4 HB HX HO]
  · iframe B2 B3 B4 HB HX HO Hx
  iintro %_ ⟨HV, HX, HO⟩
  icases (bar1_open d) $$ HV with ⟨HV, HP⟩
  ihave HS := (snds d) $$ [HS HP]
  · iframe
  ihave HS := (Entails.of_eq (fin19 (snd0 d))) $$ HS
  icases HS with ⟨S0, S1, S2, S3, S4, S5, S6, S7, S8, S9, S10, S11, S12, S13, S14, S15, S16, S17, S18⟩
  iapply (wp_seq d (part29 m K d _ _ _ _ _)) $$ [HX P0 S0 HO]
  · iframe HX P0 S0 HO Hx
  iintro %_ ⟨HX, S0, HO⟩
  iapply (wp_seq d (part30 m K d _ _ _)) $$ [HX S0 R0 HO]
  · iframe HX S0 R0 HO Hx
  iintro %y ⟨%hy, HX, P0, ⟨V0, U0⟩, Q0, HO⟩
  subst hy
  iapply (wp_seq d (part31 m K d _ _ _ _ _)) $$ [HX P1 S1 HO]
  · iframe HX P1 S1 HO Hx
  iintro %_ ⟨HX, S1, HO⟩
  iapply (wp_seq d (part32 m K d _ _ _ _)) $$ [HX P0 S1 R1 HO]
  · iframe HX P0 S1 R1 HO Hx
  iintro %y ⟨HX, P1, P0, ⟨V1, U1⟩, Q1, HO⟩
  rcases y with ⟨y1, y2⟩
  iapply (wp_seq d (part33 m K d _ _ _ _ _ _)) $$ [HX P0 S2 HO]
  · iframe HX P0 S2 HO Hx
  iintro %_ ⟨HX, P0, V2, HO⟩
  iapply (wp_seq d (part34 m K d _ _ _ _ _)) $$ [HX P1 R2 HO]
  · iframe HX P1 R2 HO Hx
  iintro %_ ⟨HX, P1, U2, Q2, HO⟩
  iapply (wp_seq d (part35 m K d _ _ _ _ _)) $$ [P1 HW HL S3 HO]
  · iframe P1 HW HL S3 HO Hx
  iintro %_ ⟨HC, PR, V3, HO⟩
  iapply (wp_seq d (part36 m K d _ _ _ _ _)) $$ [R3 S4 HO]
  · iframe R3 S4 HO Hx
  iintro %_ ⟨W3, U3, S4, HO⟩
  iapply (wp_seq d (part37 m K d _ _ _ _ _)) $$ [S4 R4 S5 HO]
  · iframe S4 R4 S5 HO Hx
  iintro %_ ⟨W4, ⟨V4, U4⟩, S5, HO⟩
  iapply (wp_seq d (part38 m K d _ _ _)) $$ [S5 R5 HC HG W3 W4 HO]
  · iframe S5 R5 HC HG W3 W4 HO Hx
  iintro %y ⟨%hy, ⟨W1, W2, W3, W4⟩, ⟨V5, U5⟩, PL, HL, HG, HO⟩
  rcases y with ⟨y1, y2⟩
  dsimp only at hy
  subst hy
  iapply (wp_seq d (part39 m K d _ _ _ _ _)) $$ [HN W1 W2 W3 W4 S12 S6 S9 S13 S14 S7 R6 R9 HO]
  · iframe HN W1 W2 W3 W4 S12 S6 S9 S13 S14 S7 R6 R9 HO Hx
  iintro %_ ⟨HN, ⟨S12, S6, S9, S13, S14, S7⟩, U6, U9, W10, W13, W14, HO⟩
  iapply (wp_seq d (part40 m K d _ _ _)) $$ [HN W10 W13 W14 S10 S15 S16 S8 S11 R7 R10 HO]
  · iframe HN W10 W13 W14 S10 S15 S16 S8 S11 R7 R10 HO Hx
  iintro %_ ⟨HN, ⟨S10, S15, S16, S8, S11⟩, U7, U10, W16, HO⟩
  iapply (wp_seq d (part41 m K d _ _ _ _)) $$ [HN W16 S17 S18 R8 R11 HO]
  · iframe HN W16 S17 S18 R8 R11 HO Hx
  iintro %_ ⟨HN, ⟨S17, S18⟩, U8, U11, HO⟩
  iapply (wp_seq d (part42 m K d _ _ _)) $$ [HN R12 R13 R14 S12 S13 S14 S6 HO]
  · iframe HN R12 R13 R14 S12 S13 S14 S6 HO Hx
  iintro %_ ⟨HN, ⟨U12, U13, U14⟩, ⟨V12, V13, V14, V6⟩, HO⟩
  iapply (wp_seq d (part43 m K d _ _ _ _)) $$ [HN R15 R16 R17 R18 S9 S15 S16 S7 S10 S17 S18 S8 HO]
  · iframe HN R15 R16 R17 R18 S9 S15 S16 S7 S10 S17 S18 S8 HO Hx
  iintro %_ ⟨HN, ⟨U15, U16, U17, U18⟩, ⟨V9, V15, V16, V7, V10, V17, V18, V8⟩, HO⟩
  iapply (g_waitS m K d 11 (cond34_iff d) rfl (fun _ => rfl)) $$ [S11 HO]
  · iframe S11 HO Hx
  iintro ⟨V11, HO⟩
  iapply (WP_ret d)
  unfold bodyEnd
  ihave V4 := snd2_done $$ V4
  ihave V5 := snd2_done $$ V5
  ihave V6 := snd2_done $$ V6
  ihave V7 := snd2_done $$ V7
  ihave V8 := snd2_done $$ V8
  ihave V9 := snd2_done $$ V9
  ihave V10 := snd2_done $$ V10
  ihave V11 := snd2_done $$ V11
  ihave V12 := snd2_done $$ V12
  ihave V13 := snd2_done $$ V13
  ihave V14 := snd2_done $$ V14
  ihave V15 := snd2_done $$ V15
  ihave V16 := snd2_done $$ V16
  ihave V17 := snd2_done $$ V17
  ihave V18 := snd2_done $$ V18
  ihave HX := (XR_idle m d 3) $$ HX
  isplitl [HV]; · iexact HV
  isplitl [V0 U0 V1 U1 V2 U2 V3 U3 V4 U4 V5 U5 V6 U6 V7 U7 V8 U8 V9 U9 V10 U10 V11 U11 V12 U12 V13 U13 V14 U14 V15 U15 V16 U16 V17 U17 V18 U18]
  · iapply (Entails.of_eq (fin19 (doneC d)).symm)
    unfold doneC
    iframe
  unfold covAll
  iframe

end Cert.KernelIdeal.Norm
-- ==== Proof.KernelIdeal.Ghost.lean ====
/-
# The protocol's start

The cells and the duty tokens minted, every device's semaphores put into their cells, and the tokens dealt to the
devices that pay the duties.
-/
module

public import proofs.«01_k».proof.Proof.KernelIdeal.Body

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ
local notation "𝕋" => TpuEff nD τ sig (Elt F) Λ₀ (Proc.tc : Proc τ)

variable (m : (ℓ : Loc nD τ sig) → Buf (Elt F) ℓ)

abbrev Role : Type := Option (Fin 19 ⊕ Fin 19)

theorem sSem_inj : Function.Injective sSem := fun a b h => by
  have := congrArg role h; rw [role_sSem, role_sSem] at this; exact Sum.inl.inj (Option.some.inj this)
theorem rSem_inj : Function.Injective rSem := fun a b h => by
  have := congrArg role h; rw [role_rSem, role_rSem] at this; exact Sum.inr.inj (Option.some.inj this)
theorem sSem_ne_rSem (a b : Fin 19) : sSem a ≠ rSem b := fun h => by
  have := congrArg role h; rw [role_sSem, role_rSem] at this; cases Option.some.inj this

theorem dma_inj {a b : DmaSem sig} (h : (SemLoc.dma a : SemLoc sig) = .dma b) : a = b := SemLoc.dma.inj h

theorem cellAt_injective : Function.Injective cellAt := by
  rintro ⟨c, i⟩ ⟨d, j⟩ h
  have hc : c = d := by
    have := congrArg (fun g : GSem nD τ sig => g.1.1) h
    rcases i with _ | i | i <;> rcases j with _ | j | j <;> exact this
  subst hc
  have hs := congrArg (fun g : GSem nD τ sig => g.2) h
  rcases i with _ | i | i <;> rcases j with _ | j | j
  · rfl
  · cases hs
  · cases hs
  · cases hs
  · rw [sSem_inj (dma_inj hs)]
  · exact absurd (dma_inj hs) (sSem_ne_rSem i j)
  · cases hs
  · exact absurd (dma_inj hs).symm (sSem_ne_rSem j i)
  · rw [rSem_inj (dma_inj hs)]

def allCells : Finset (GSem nD τ sig) := Finset.univ.map ⟨cellAt, cellAt_injective⟩

/-- The tokens by the device that pays with them: a barrier duty's, a send's, a landing's. -/
def tokOf (p : Dev nD × (Fin 5 ⊕ (Fin 19 ⊕ Fin 19))) : GSem nD τ sig × ℕ × Fin 5 :=
  match p.2 with
  | .inl d => (barC (bpeer p.1 d), 0, d)
  | .inr (.inl k) => (sndC p.1 k, 0, 0)
  | .inr (.inr k) => (rcvC (peer p.1 k) k, 0, 0)

theorem tokOf_injective : Function.Injective tokOf := by
  rintro ⟨c, i⟩ ⟨d, j⟩ h
  have hs := congrArg (fun x : GSem nD τ sig × ℕ × Fin 5 => x.1.2) h
  have hc := congrArg (fun x : GSem nD τ sig × ℕ × Fin 5 => x.1.1.1) h
  rcases i with i | i | i <;> rcases j with j | j | j
  · have hd : i = j := congrArg (fun x : GSem nD τ sig × ℕ × Fin 5 => x.2.2) h
    subst hd
    have hc' : bpeer c i = bpeer d i := hc
    rw [show c = d by rw [← bfrm_bpeer c i, hc', bfrm_bpeer]]
  · cases hs
  · cases hs
  · cases hs
  · have hc' : c = d := hc
    rw [hc', sSem_inj (dma_inj hs)]
  · exact absurd (dma_inj hs) (sSem_ne_rSem i j)
  · cases hs
  · exact absurd (dma_inj hs).symm (sSem_ne_rSem j i)
  · have hk : i = j := rSem_inj (dma_inj hs)
    subst hk
    have hc' : peer c i = peer d i := hc
    rw [show c = d by rw [← frm_peer c i, hc', frm_peer]]

def allToks : Finset (GSem nD τ sig × ℕ × Fin 5) := Finset.univ.map ⟨tokOf, tokOf_injective⟩

/-- The launch's ghost state: the staging's cells, the protocol's, and no counters. -/
def u₀ : UU := (initOf (Pipeline.cells cfgs cellOf_inj) (Pipeline.launchToks cfgs cellOf_inj), (initOf allCells allToks, 1))

/-- The tokens that device `c` pays with. -/
def payT (c : Dev nD) : sProp 𝕄 :=
  iprop((bigSep Finset.univ fun d : Fin 5 => dutyTok ER (barC (bpeer c d)) 0 d) ∗ (bigSep Finset.univ fun k : Fin 19 => toks c k))

/-- What a device gets of the ghost state. -/
def G (c : Dev nD) : sProp 𝕄 :=
  iprop((bigSep Finset.univ fun j : Role => roundState ER (sched m) (cellAt (c, j)) 0)
    ∗ (bigSep Finset.univ fun j : Role => atPos ER (cellAt (c, j)) 0 ∅ 0)
    ∗ (bigSep Finset.univ fun j : Role => reached ER (cellAt (c, j)) 0) ∗ payT c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun j : Role => Φ (cellAt (c, j)) := by
    unfold allCells; rw [bigSep_map, bigSep_univ_prod]; rfl
  have hT : bigSep allToks (fun x => (dutyTok ER x.1 x.2.1 x.2.2 : sProp 𝕄)) = bigSep Finset.univ fun c : Dev nD => payT c := by
    unfold allToks; rw [bigSep_map, bigSep_univ_prod]
    refine bigSep_congr fun c _ => ?_
    unfold payT toks
    rw [bigSep_univ_sum, bigSep_univ_sum, bigSep_sep']
    rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe Hst' Hat' Hr' Htok'

/-! ## The semaphores -/

/-- The semaphores that only local copies use. -/
def locS (i : Fin 5) : DmaSem sig := ⟨39 + i.val, by have := i.isLt; show _ < 44; omega⟩

/-- The kernel's own semaphores. -/
def osem (x : (Fin 19 ⊕ Fin 19) ⊕ Fin 5) : SemLoc sig :=
  match x with | .inl (.inl k) => .dma (sSem k) | .inl (.inr k) => .dma (rSem k) | .inr i => .dma (locS i)

theorem ownSemFacts : Pipeline.OwnSemFacts cfg0.spec osem := by decide +kernel

def locals (c : Dev nD) : sProp 𝕄 := bigSep Finset.univ fun i : Fin 5 => semVal ((c : Thread nD τ), .dma (locS i)) 0

theorem ownSems0_eq (c : Dev nD) : (Pipeline.ownSems0 (Ix := Unit) (Name := ℕ) (U := UU) (Lvl := ℕ) (Val := Elt F) (τ := τ) osem c : sProp 𝕄)
    = iprop(((bigSep Finset.univ fun k : Fin 19 => semVal (sndC c k) 0) ∗ (bigSep Finset.univ fun k : Fin 19 => semVal (rcvC c k) 0)) ∗ locals c) := by
  unfold Pipeline.ownSems0
  rw [bigSep_univ_sum, bigSep_univ_sum]
  rfl

theorem unscopedSems0_eq (c : Dev nD) : (unscopedSems0 c : sProp 𝕄) = semVal (barC c) 0 := by
  unfold unscopedSems0; rw [bigSep_eq_bigSepL_of_eq [SemLoc.reg barS] (by decide) (by decide)]; rfl

theorem roles (Φ : Role → sProp 𝕄) : bigSep Finset.univ Φ
    = iprop(((bigSep Finset.univ fun k => Φ (some (.inl k))) ∗ (bigSep Finset.univ fun k => Φ (some (.inr k)))) ∗ Φ none) := by
  rw [bigSep_univ_equiv (Equiv.optionEquivSumPUnit.{0} (Fin 19 ⊕ Fin 19)).symm Φ, bigSep_univ_sum, bigSep_univ_sum,
    bigSep_univ_eq_bigSepL [PUnit.unit.{1}] (by decide) (by decide)]
  rfl

theorem sems_eq (c : Dev nD) :
    iprop(Pipeline.ownSems0 (Ix := Unit) (Name := ℕ) (U := UU) (Lvl := ℕ) (Val := Elt F) (τ := τ) osem c ∗ unscopedSems0 c)
      ⊢ (iprop((bigSep Finset.univ fun j : Role => semVal (cellAt (c, j)) 0) ∗ locals c) : sProp 𝕄) := by
  rw [ownSems0_eq, unscopedSems0_eq, roles]
  iintro ⟨⟨⟨HS, HV⟩, HL⟩, HB⟩
  isplitr [HL]
  · isplitr [HB]
    · isplitl [HS]; · iexact HS
      iexact HV
    iexact HB
  iexact HL

/-- What stays with a device of its own. -/
def linear (c : Dev nD) : sProp 𝕄 := iprop((bigSep Finset.univ fun j : Role => atPos ER (cellAt (c, j)) 0 ∅ 0) ∗ payT c ∗ locals c)

def G' (c : Dev nD) : sProp 𝕄 := iprop(∃ K, records m K ∗ linear c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Role => iprop(∃ κ : ℕ, cellInv ER (sched m) κ (cellAt (c, j))))
          ∗ (bigSep Finset.univ fun j : Role => reached ER (cellAt (c, j)) 0) ∗ linear c) := by
  unfold G linear
  iintro ⟨Hos, Hus, Hst, Hat, Hr, Htok⟩
  ihave Hv := (sems_eq (F := F) c) $$ [Hos Hus]
  · iframe Hos Hus
  icases Hv with ⟨Hv, HL⟩
  imod (show iprop((bigSep Finset.univ fun j : Role => semVal (cellAt (c, j)) 0) ∗ bigSep Finset.univ fun j : Role => roundState ER (sched m) (cellAt (c, j)) 0)
      ⊢ (|={Set.univ}=> bigSep Finset.univ fun j => iprop(∃ κ : ℕ, cellInv ER (sched m) κ (cellAt (c, j))) : sProp 𝕄) from by
        rw [← bigSep_sep']
        exact (bigSep_mono fun j _ => (Rounds.body_intro ER (sched m) (cellAt (c, j))).trans inv_alloc).trans (bigSep_fupd _ _)) $$ [Hv Hst] with Hinv
  · iframe Hv Hst
  imodintro
  iframe Hinv Hr Hat Htok HL

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j : Role => iprop(∃ κ : ℕ, cellInv ER (sched m) κ (cellAt (c, j))))
          ∗ (bigSep Finset.univ fun j : Role => reached ER (cellAt (c, j)) 0) ∗ linear c) : sProp 𝕄)
      ⊢ bigSep Finset.univ (G' m) := by
  rw [bigSep_sep', bigSep_sep', ← bigSep_univ_prod (fun p : Dev nD × Role => iprop(∃ κ : ℕ, cellInv ER (sched m) κ (cellAt p))),
    ← bigSep_univ_prod (fun p : Dev nD × Role => (reached ER (cellAt p) 0 : sProp 𝕄))]
  iintro ⟨HI, #HR, HL⟩
  ihave HK := (BI.bigSep_exists_pi Finset.univ (fun (p : Dev nD × Role) (κ : ℕ) => (cellInv ER (sched m) κ (cellAt p) : sProp 𝕄))) $$ HI
  icases HK with ⟨%K, #HI⟩
  iapply (with_persistent (R := records m K) (fun c _ => show iprop(records m K ∗ linear c) ⊢ G' m c from by
    unfold G'; iintro ⟨H1, H2⟩; iexists K; iframe))
  isplitr
  · unfold records
    iapply (Entails.of_eq (bigSep_sep' Finset.univ (fun p : Dev nD × Role => (cellInv ER (sched m) (K p) (cellAt p) : sProp 𝕄)) (fun p => reached ER (cellAt p) 0)).symm)
    isplitl; · iexact HI
    iexact HR
  · iexact HL

/-- All the devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Norm
-- ==== Proof.KernelIdeal.Deal.lean ====
/-
# The buffers dealt out and collected

At the start each landing place is handed to the barrier duty that passes it on; at the end the scratch buffers are whole
again.
-/
module

public import proofs.«01_k».proof.Proof.KernelIdeal.Ghost

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ
local notation "𝕋" => TpuEff nD τ sig (Elt F) Λ₀ (Proc.tc : Proc τ)

variable (m : (ℓ : Loc nD τ sig) → Buf (Elt F) ℓ)

/-- Disjoint parts of a buffer, each holding anything. -/
theorem deal {ℓ : Loc nD τ sig} {T : Type} [DecidableEq T] (S : Finset T) (P : T → Finset (Idx ℓ)) {A : Finset (Idx ℓ)} (hA : S.biUnion P ⊆ A)
    (h : ∀ t ∈ S, ∀ t' ∈ S, t ≠ t' → Disjoint (P t) (P t')) (f : Buf (Elt F) ℓ) :
    (ℓ ↦[A]{fullShare} f : sProp 𝕄) ⊢ bigSep S fun t => iprop(∃ f : Buf (Elt F) ℓ, ℓ ↦[P t]{fullShare} f) := by
  refine (pointsTo_split_subset hA).1.trans ?_
  rw [pointsTo_biUnion S P h]
  have h1 (X Y : sProp 𝕄) : iprop(X ∗ Y) ⊢ X := by iintro ⟨H, -⟩; iexact H
  refine (h1 _ _).trans ?_
  have h2 (t : T) : (ℓ ↦[P t]{fullShare} f : sProp 𝕄) ⊢ iprop(∃ f : Buf (Elt F) ℓ, ℓ ↦[P t]{fullShare} f) := by iintro H; iexists f; iexact H
  exact bigSep_mono fun t _ => h2 t

/-- The parts together again. -/
theorem collect {ℓ : Loc nD τ sig} {T : Type} [DecidableEq T] (S : Finset T) (P : T → Finset (Idx ℓ)) (hA : S.biUnion P = Finset.univ) (t₀ : T)
    (h : ∀ t ∈ S, ∀ t' ∈ S, t ≠ t' → Disjoint (P t) (P t')) :
    (bigSep S fun t => iprop(∃ f : Buf (Elt F) ℓ, ℓ ↦[P t]{fullShare} f)) ⊢ (iprop(∃ f : Buf (Elt F) ℓ, ℓ ↦{fullShare} f) : sProp 𝕄) := by
  refine (BI.bigSep_exists_pi S (fun t (f : Buf (Elt F) ℓ) => (ℓ ↦[P t]{fullShare} f : sProp 𝕄))).trans ?_
  iintro ⟨%fs, H⟩
  ihave H' := (pointsTo_biUnion_join (ℓ := ℓ) (q := fullShare) (Val := Elt F) S P fs (fs t₀) h) $$ H
  icases H' with ⟨%g, -, Hg⟩
  rw [hA]
  iexists g; iexact Hg

/-! ## The queue and the send buffer -/

def rqP (n : Fin 3) : Finset S3x256x2048.Idx := (rqS n.val).view.set
def sbP (n : Fin 2) : Finset S2x256x2048.Idx := (sbS n.val).view.set

theorem mem_rqP (n : Fin 3) (i : S3x256x2048.Idx) : i ∈ rqP n ↔ (i 0).val = n.val := by
  unfold rqP; rw [rq_set, Finset.mem_filter, Nat.mod_eq_of_lt n.isLt]; simp
theorem mem_sbP (n : Fin 2) (i : S2x256x2048.Idx) : i ∈ sbP n ↔ (i 0).val = n.val := by
  unfold sbP; rw [sb_set, Finset.mem_filter, Nat.mod_eq_of_lt n.isLt]; simp

theorem rqP_disj : ∀ t ∈ (Finset.univ : Finset (Fin 3)), ∀ t' ∈ (Finset.univ : Finset (Fin 3)), t ≠ t' → Disjoint (rqP t) (rqP t') := fun t _ t' _ h =>
  Finset.disjoint_left.mpr fun i h1 h2 => h (Fin.ext (((mem_rqP t i).mp h1).symm.trans ((mem_rqP t' i).mp h2)))
theorem sbP_disj : ∀ t ∈ (Finset.univ : Finset (Fin 2)), ∀ t' ∈ (Finset.univ : Finset (Fin 2)), t ≠ t' → Disjoint (sbP t) (sbP t') := fun t _ t' _ h =>
  Finset.disjoint_left.mpr fun i h1 h2 => h (Fin.ext (((mem_sbP t i).mp h1).symm.trans ((mem_sbP t' i).mp h2)))
theorem rqP_cover : (Finset.univ : Finset (Fin 3)).biUnion rqP = Finset.univ :=
  Finset.eq_univ_of_forall fun i => Finset.mem_biUnion.mpr ⟨⟨(i 0).val, (i 0).isLt⟩, Finset.mem_univ _, (mem_rqP _ i).mpr rfl⟩
theorem sbP_cover : (Finset.univ : Finset (Fin 2)).biUnion sbP = Finset.univ :=
  Finset.eq_univ_of_forall fun i => Finset.mem_biUnion.mpr ⟨⟨(i 0).val, (i 0).isLt⟩, Finset.mem_univ _, (mem_sbP _ i).mpr rfl⟩

theorem fin2 (Φ : Fin 2 → sProp 𝕄) : bigSep Finset.univ Φ = iprop(Φ 0 ∗ Φ 1) := bigSep_univ_eq_bigSepL [0, 1] (by decide) (by decide) Φ
theorem fin3 (Φ : Fin 3 → sProp 𝕄) : bigSep Finset.univ Φ = iprop(Φ 0 ∗ Φ 1 ∗ Φ 2) := bigSep_univ_eq_bigSepL [0, 1, 2] (by decide) (by decide) Φ
theorem fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem sb_deal (c : Dev nD) : iprop(∃ f : Buf (Elt F) ((c : Thread nD τ).loc cc0_scratch1), ((c : Thread nD τ).loc cc0_scratch1) ↦{fullShare} f)
    ⊢ (iprop(SBe c 0 ∗ SBe c 1) : sProp 𝕄) := by
  iintro ⟨%f, H⟩
  ihave H := (deal (ℓ := (c : Thread nD τ).loc cc0_scratch1) Finset.univ sbP (Finset.subset_univ _) sbP_disj f) $$ H
  ihave H := (Entails.of_eq (fin2 _)) $$ H
  unfold SBe
  iexact H

theorem sb_collect (c : Dev nD) : iprop(SBe c 0 ∗ SBhe c fullShare.left ∗ SBhe c fullShare.right)
    ⊢ (iprop(∃ f : Buf (Elt F) ((c : Thread nD τ).loc cc0_scratch1), ((c : Thread nD τ).loc cc0_scratch1) ↦{fullShare} f) : sProp 𝕄) := by
  unfold SBhe
  iintro ⟨H0, ⟨%f, HL⟩, ⟨%g, HR⟩⟩
  ihave %ha := (pointsTo_agree (ℓ := (c : Thread nD τ).loc cc0_scratch1) (I := (sbS 1).view.set) (J := (sbS 1).view.set)) $$ [HL HR]
  · isplitl [HL]; · iexact HL
    iexact HR
  ihave HR := (Entails.of_eq (pointsTo_congr (g := f) fun i hi => (ha i (Finset.mem_inter.mpr ⟨hi, hi⟩)).1.symm)) $$ HR
  ihave H1 := (pointsTo_share (PosShare.mem_left_op_right fullShare)).2 $$ [HL HR]
  · isplitl [HL]; · iexact HL
    iexact HR
  iapply (collect (ℓ := (c : Thread nD τ).loc cc0_scratch1) Finset.univ sbP sbP_cover 0 sbP_disj)
  iapply (Entails.of_eq (fin2 _).symm)
  unfold SBe
  isplitl [H0]; · iexact H0
  iexists f; iexact H1

theorem RQ_any (c : Dev nD) (n : ℕ) (w : FVec F S1x256x2048 .bf16) : (RQ c n w : sProp 𝕄)
    ⊢ iprop(∃ f : Buf (Elt F) ((c : Thread nD τ).loc cc0_scratch0), ((c : Thread nD τ).loc cc0_scratch0) ↦[(rqS n).view.set]{fullShare} f) := by
  unfold RQ
  iintro ⟨%f, -, H⟩
  iexists f; iexact H

theorem rq_collect (c : Dev nD) (w0 w1 w2 : FVec F S1x256x2048 .bf16) : iprop(RQ c 0 w0 ∗ RQ c 1 w1 ∗ RQ c 2 w2)
    ⊢ (iprop(∃ f : Buf (Elt F) ((c : Thread nD τ).loc cc0_scratch0), ((c : Thread nD τ).loc cc0_scratch0) ↦{fullShare} f) : sProp 𝕄) := by
  iintro ⟨H0, H1, H2⟩
  ihave H0 := (RQ_any c 0 w0) $$ H0
  ihave H1 := (RQ_any c 1 w1) $$ H1
  ihave H2 := (RQ_any c 2 w2) $$ H2
  iapply (collect (ℓ := (c : Thread nD τ).loc cc0_scratch0) Finset.univ rqP rqP_cover 0 rqP_disj)
  iapply (Entails.of_eq (fin3 _).symm)
  isplitl [H0]; · iexact H0
  isplitl [H1]; · iexact H1
  iexact H2

/-! ## The landing places -/

theorem rows_disj {lo n lo' n' : ℕ} (h : lo + n ≤ lo' ∨ lo' + n' ≤ lo) : Disjoint (rows lo n) (rows lo' n') :=
  Finset.disjoint_left.mpr fun i h1 h2 => by rw [mem_rows] at h1 h2; omega

theorem land_apart : ∀ (c : Dev nD) (k k' : Fin 19), 3 ≤ k.val → 3 ≤ k'.val → hasR c k = true → hasR c k' = true → k ≠ k' →
    rRow c k + nRow k ≤ rRow c k' ∨ rRow c k' + nRow k' ≤ rRow c k := by decide +kernel
theorem own_apart : ∀ (c : Dev nD) (k : Fin 19), 3 ≤ k.val → hasR c k = true →
    rRow c k + nRow k ≤ sRow c 3 ∨ sRow c 3 + 256 ≤ rRow c k := by decide +kernel

/-- The kinds that land in the reduced array of `c`. -/
def wKinds (c : Dev nD) : Finset (Fin 19) := Finset.univ.filter fun k => 3 ≤ k.val ∧ hasR c k = true

theorem low_kinds (Φ : Fin 19 → sProp 𝕄) :
    iprop((Φ 0 ∗ Φ 1 ∗ Φ 2) ∗ bigSep Finset.univ fun k : Fin 19 => if 3 ≤ k.val then Φ k else iprop(emp)) ⊢ bigSep Finset.univ Φ := by
  rw [fin19, fin19 Φ]
  iintro ⟨⟨H0, H1, H2⟩, -, -, -, HR⟩
  iframe H0 H1 H2
  iexact HR

theorem landP_low (c : Dev nD) (k : Fin 19) (h : k.val < 3) : (landP c k : sProp 𝕄)
    = iprop(∃ f : Buf (Elt F) ((c : Thread nD τ).loc cc0_scratch0), ((c : Thread nD τ).loc cc0_scratch0) ↦[(rqS k.val).view.set]{fullShare} f) := if_pos h

theorem lands_deal (c : Dev nD) :
    iprop((∃ f : Buf (Elt F) ((c : Thread nD τ).loc cc0_scratch0), ((c : Thread nD τ).loc cc0_scratch0) ↦{fullShare} f)
      ∗ (∃ f : Buf (Elt F) ((c : Thread nD τ).loc main_v1_1), ((c : Thread nD τ).loc main_v1_1) ↦{fullShare} f))
    ⊢ (iprop(OwnW c ∗ bigSep Finset.univ fun k : Fin 19 => when (hasR c k) (landP c k)) : sProp 𝕄) := by
  iintro ⟨⟨%f, HQ⟩, ⟨%g, HW⟩⟩
  ihave HQ := (deal (ℓ := (c : Thread nD τ).loc cc0_scratch0) Finset.univ rqP (Finset.subset_univ _) rqP_disj f) $$ HQ
  ihave HQ := (Entails.of_eq (fin3 _)) $$ HQ
  icases HQ with ⟨Q0, Q1, Q2⟩
  ihave HW := (pointsTo_split_subset (Finset.subset_univ (rows (sRow c 3) 256))).1 $$ HW
  icases HW with ⟨HO, HW⟩
  isplitl [HO]
  · unfold OwnW; iexists g; iexact HO
  ihave HW := (deal (ℓ := (c : Thread nD τ).loc main_v1_1) (wKinds c) (fun k => rows (rRow c k) (nRow k)) (by
      intro i hi
      obtain ⟨k, hk, hi⟩ := Finset.mem_biUnion.mp hi
      obtain ⟨h3, hr⟩ := (Finset.mem_filter.mp hk).2
      refine Finset.mem_sdiff.mpr ⟨Finset.mem_univ _, fun h => ?_⟩
      exact Finset.disjoint_left.mp (rows_disj (own_apart c k h3 hr)) hi h)
    (fun k hk k' hk' hne => rows_disj (land_apart c k k' (Finset.mem_filter.mp hk).2.1 (Finset.mem_filter.mp hk').2.1
      (Finset.mem_filter.mp hk).2.2 (Finset.mem_filter.mp hk').2.2 hne)) g) $$ HW
  iapply (low_kinds (fun k => when (hasR c k) (landP c k)))
  isplitl [Q0 Q1 Q2]
  · rw [when_pos (hasR_low c 0 (by decide)), when_pos (hasR_low c 1 (by decide)), when_pos (hasR_low c 2 (by decide))]
    rw [landP_low c 0 (by decide), landP_low c 1 (by decide), landP_low c 2 (by decide)]
    isplitl [Q0]; · iexact Q0
    isplitl [Q1]; · iexact Q1
    iexact Q2
  · unfold wKinds
    iapply (show (bigSep (Finset.univ.filter fun k : Fin 19 => 3 ≤ k.val ∧ hasR c k = true) fun k => iprop(∃ f : Buf (Elt F) ((c : Thread nD τ).loc main_v1_1),
          ((c : Thread nD τ).loc main_v1_1) ↦[rows (rRow c k) (nRow k)]{fullShare} f))
        ⊢ (bigSep Finset.univ fun k : Fin 19 => if 3 ≤ k.val then when (hasR c k) (landP c k) else iprop(emp) : sProp 𝕄) from by
      rw [bigSep_filter]
      refine Entails.of_eq (bigSep_congr fun k _ => ?_)
      by_cases h3 : 3 ≤ k.val
      · by_cases hr : hasR c k = true
        · rw [if_pos ⟨h3, hr⟩, if_pos h3, when_pos hr]; unfold landP; rw [if_neg (by omega)]
        · rw [if_neg (fun h => hr h.2), if_pos h3, when_neg hr]; rfl
      · rw [if_neg (fun h => h3 h.1), if_neg h3]; rfl)
    iexact HW

/-! ## The barrier's duties -/

theorem gset_bpeer : ∀ (c : Dev nD) (d : Fin 5) (k : Fin 19), (grp k = d ∧ has (bpeer c d) k = true) ↔ (grp k = d ∧ hasR c k = true) := by decide +kernel

theorem sole (k : Fin 19) (P : sProp 𝕄) : P ⊢ bigSep Finset.univ fun d : Fin 5 => if grp k = d then P else iprop(emp) := by
  rw [bigSep_univ_at _ (grp k), if_pos rfl, bigSep_congr (Ψ := fun _ => (iprop(emp) : sProp 𝕄)) fun d hd => if_neg fun h => (Finset.mem_erase.mp hd).1 h.symm,
    show (bigSep (Finset.univ.erase (grp k)) fun _ : Fin 5 => (iprop(emp) : sProp 𝕄)) = iprop(emp) from bigSep_emp_const _]
  iintro H
  isplitl; · iexact H
  iempintro

theorem swap (Φ : Fin 19 → Fin 5 → sProp 𝕄) : (bigSep Finset.univ fun k => bigSep Finset.univ fun d => Φ k d) = bigSep Finset.univ fun d => bigSep Finset.univ fun k => Φ k d := by
  rw [← bigSep_univ_prod (fun p : Fin 19 × Fin 5 => Φ p.1 p.2), ← bigSep_univ_prod (fun p : Fin 5 × Fin 19 => Φ p.2 p.1),
    bigSep_univ_equiv (Equiv.prodComm (Fin 5) (Fin 19))]
  rfl

theorem bars_deal (c : Dev nD) :
    (bigSep Finset.univ fun k : Fin 19 => when (hasR c k) (landP c k) : sProp 𝕄) ⊢ bigSep Finset.univ fun d : Fin 5 => barPay (bpeer c d) d := by
  refine (bigSep_mono fun k _ => sole k _).trans ?_
  rw [swap]
  refine Entails.of_eq (bigSep_congr fun d _ => ?_)
  unfold barPay gset
  rw [bigSep_filter, bfrm_bpeer]
  refine bigSep_congr fun k _ => ?_
  by_cases hg : grp k = d
  · rw [if_pos hg]
    by_cases hr : hasR c k = true
    · rw [when_pos hr, if_pos ((gset_bpeer c d k).mpr ⟨hg, hr⟩)]
    · rw [when_neg hr, if_neg fun h => hr ((gset_bpeer c d k).mp h).2]; rfl
  · rw [if_neg hg, if_neg fun h => hg h.1]; rfl

theorem when_intro (b : Bool) (P : sProp 𝕄) : P ⊢ when b P := by
  by_cases h : b = true
  · rw [when_pos h]
  · rw [when_neg h]
    iintro -
    iempintro

theorem bsigs_intro (c : Dev nD) :
    iprop((bigSep Finset.univ fun d : Fin 5 => dutyTok ER (barC (bpeer c d)) 0 d) ∗ bigSep Finset.univ fun k : Fin 19 => when (hasR c k) (landP c k))
      ⊢ (iprop(bsig c 0 ∗ bsig c 1 ∗ bsig c 2 ∗ bsig c 3 ∗ bsig c 4) : sProp 𝕄) := by
  refine (sep_mono_right (bars_deal c)).trans ?_
  rw [← bigSep_sep', ← fin5 (fun d => (bsig c d : sProp 𝕄))]
  refine bigSep_mono fun d _ => ?_
  unfold bsig
  exact when_intro (F := F) _ _

end Cert.KernelIdeal.Norm
-- ==== Proof.KernelIdeal.Enter.lean ====
/-
# Into the body and out of it

What the launch hands a device is what its body starts from, and what the body ends with is what the launch wants back.
-/
module

public import proofs.«01_k».proof.Proof.KernelIdeal.Deal

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ
local notation "𝕋" => TpuEff nD τ sig (Elt F) Λ₀ (Proc.tc : Proc τ)

variable (m : (ℓ : Loc nD τ sig) → Buf (Elt F) ℓ)

variable (K : Dev nD × Role → ℕ)

/-- What a device owes at the start. -/
def O₀ (c : Dev nD) : CellTallies nD τ sig Unit := owedL c oAll

/-! ## The launch's credit -/

theorem owedL_apply (c : Dev nD) (l : List Ob) (g : GSem nD τ sig) :
    owedL c l g () = (l.map fun o => if o.has c = true ∧ g = o.cell c then o.amt else 0).sum := by
  induction l with
  | nil => rfl
  | cons o l ih =>
    rw [owedL_cons, Pi.add_apply, Finsupp.add_apply, ih, List.map_cons, List.sum_cons, add_comm]
    congr 1
    by_cases h : o.has c = true
    · rw [if_pos h, tallyAt_apply]
      by_cases hg : g = o.cell c
      · rw [if_pos ⟨hg, rfl⟩, if_pos ⟨h, hg⟩]
      · rw [if_neg fun hh => hg hh.1, if_neg fun hh => hg hh.2]
    · rw [if_neg h, if_neg fun hh => h hh.1]; rfl

def Ob.isXf (k : Fin 19) : Ob → Bool | .bar _ => false | .xf j => decide (j = k)

theorem oAll_once : ∀ k : Fin 19, oAll.countP (Ob.isXf k) = 1 := by decide +kernel

theorem sum_count (l : List Ob) (p : Ob → Bool) (X : ℕ) : (l.map fun o => if p o = true then X else 0).sum = l.countP p * X := by
  induction l with
  | nil => rw [List.map_nil, List.sum_nil, List.countP_nil, Nat.zero_mul]
  | cons o l ih =>
    rw [List.map_cons, List.sum_cons, ih, List.countP_cons]
    by_cases h : p o = true
    · rw [if_pos h, if_pos h, Nat.add_mul, Nat.one_mul, Nat.add_comm]
    · rw [if_neg h, if_neg h, Nat.zero_add, Nat.add_zero]

theorem rcv_eq_iff {a b : Dev nD} {j k : Fin 19} : rcvC a j = rcvC b k ↔ a = b ∧ j = k :=
  ⟨fun h => ⟨congrArg (fun g : GSem nD τ sig => g.1.1) h, rSem_inj (dma_inj (congrArg (fun g : GSem nD τ sig => g.2) h))⟩, fun ⟨h1, h2⟩ => by rw [h1, h2]⟩

theorem owed_rcv (d c : Dev nD) (k : Fin 19) : O₀ d (rcvC c k) () = if d = frm c k then (if hasR c k = true then amt k else 0) else 0 := by
  unfold O₀
  rw [owedL_apply]
  refine Eq.trans (congrArg List.sum (List.map_congr_left (g := fun o : Ob => if o.isXf k = true then
    (if d = frm c k then (if hasR c k = true then amt k else 0) else 0) else 0) fun o _ => ?_)) ?_
  · cases o with
    | bar b => rw [if_neg (fun h => by cases congrArg (fun g : GSem nD τ sig => g.2) h.2), if_neg (show ¬ (Ob.isXf k (.bar b)) = true from fun h => Bool.noConfusion h)]
    | xf j =>
      rw [show Ob.isXf k (.xf j) = decide (j = k) from rfl]
      by_cases hj : j = k
      · subst hj
        rw [if_pos (decide_eq_true rfl)]
        by_cases hd : d = frm c j
        · subst hd
          rw [if_pos rfl]
          refine if_congr ⟨fun h => h.1, fun h => ⟨h, ?_⟩⟩ rfl rfl
          show rcvC c j = rcvC (peer (frm c j) j) j; rw [peer_frm]
        · rw [if_neg hd, if_neg]
          rintro ⟨-, h⟩
          exact hd (by rw [(rcv_eq_iff.mp h).1, frm_peer])
      · rw [if_neg (fun h => hj (rcv_eq_iff.mp h.2).2.symm), if_neg (fun h => hj (of_decide_eq_true h))]
  · rw [sum_count, oAll_once, Nat.one_mul]

theorem launch_rcv (c : Dev nD) (k : Fin 19) :
    tallyOn (rcvC c k) (launchCredit (Pipeline.owing O₀) 0 (rcvC c k)) = (tallyAt (rcvC c k) () (if hasR c k = true then amt k else 0) : CellTallies nD τ sig Unit) := by
  unfold tallyAt; refine congrArg _ (Finsupp.ext fun u => ?_); cases u
  rw [Pipeline.launchCredit_owing, Finsupp.single_eq_same, Finset.sum_congr rfl fun d _ => owed_rcv d c k,
    Finset.sum_ite_eq' Finset.univ (frm c k) fun _ => _, if_pos (Finset.mem_univ _)]

def barAmt (d c : Dev nD) : ℕ := ∑ b : Fin 5, if hasB d b = true ∧ bpeer d b = c then 1 else 0

theorem owed_bar (d c : Dev nD) : O₀ d (barC c) () = barAmt d c := by
  unfold O₀
  rw [owedL_apply]
  refine Eq.trans (congrArg List.sum (List.map_congr_left (g := fun o : Ob => match o with
    | .bar b => if hasB d b = true ∧ bpeer d b = c then 1 else 0 | .xf _ => 0) fun o _ => ?_)) ?_
  · cases o with
    | bar b =>
      refine if_congr ⟨fun h => ⟨h.1, ?_⟩, fun h => ⟨h.1, ?_⟩⟩ rfl rfl
      · exact (congrArg (fun g : GSem nD τ sig => g.1.1) h.2).symm
      · show barC c = barC (bpeer d b); rw [h.2]
    | xf j => exact if_neg fun h => by cases congrArg (fun g : GSem nD τ sig => g.2) h.2
  · unfold barAmt
    rw [Fin.sum_univ_five]
    simp only [oAll, oS, o39, List.map_cons, List.map_nil, List.sum_cons, List.sum_nil]
    omega

theorem bar_total : ∀ c : Dev nD, ∑ d : Dev nD, barAmt d c = barN c := by decide +kernel

theorem launch_bar (c : Dev nD) :
    tallyOn (barC c) (launchCredit (Pipeline.owing O₀) 0 (barC c)) = (tallyAt (barC c) () (barN c) : CellTallies nD τ sig Unit) := by
  unfold tallyAt; refine congrArg _ (Finsupp.ext fun u => ?_); cases u
  rw [Pipeline.launchCredit_owing, Finsupp.single_eq_same, Finset.sum_congr rfl fun d _ => owed_bar d c, bar_total]

def rEmb : Fin 19 ↪ SemLoc sig := ⟨fun k => .dma (rSem k), fun a b h => rSem_inj (dma_inj h)⟩

/-- The credit of each of a device's receive cells. -/
def rcreds (c : Dev nD) : sProp 𝕄 := bigSep Finset.univ fun k : Fin 19 => when (hasR c k) (cred (tallyAt (rcvC c k) () (amt k)))

theorem same (P : sProp 𝕄) : P ⊢ P := by iintro H; iexact H
theorem to_emp (P : sProp 𝕄) : P ⊢ iprop(emp) := by iintro -; iempintro

theorem creds (c : Dev nD) : (Pipeline.launchCred O₀ c : sProp 𝕄) ⊢ iprop(cred (tallyAt (barC c) () (barN c)) ∗ rcreds c) := by
  unfold Pipeline.launchCred
  rw [bigSep_univ_at _ (SemLoc.reg barS), launch_bar]
  refine sep_mono_right ?_
  have hsub : Finset.univ.map rEmb ⊆ Finset.univ.erase (SemLoc.reg barS : SemLoc sig) := fun x hx => by
    obtain ⟨k, -, rfl⟩ := Finset.mem_map.mp hx
    exact Finset.mem_erase.mpr ⟨fun h => (by cases h), Finset.mem_univ _⟩
  have h1 (X Y : sProp 𝕄) : iprop(X ∗ Y) ⊢ X := by iintro ⟨H, -⟩; iexact H
  refine (Entails.of_eq (bigSep_sdiff_split hsub)).trans ((h1 _ _).trans ?_)
  rw [bigSep_map]
  unfold rcreds
  refine bigSep_mono fun k _ => ?_
  rw [show (rEmb k : SemLoc sig) = .dma (rSem k) from rfl, launch_rcv]
  by_cases h : hasR c k = true
  · rw [if_pos h, when_pos h]; exact same (F := F) _
  · rw [when_neg h]; exact to_emp (F := F) _

/-! ## Into the body -/

theorem close_unused (p : Dev nD × Role) (h : ∀ r, (sched m).duties (cellAt p) r = ∅) :
    iprop(records m K ∗ atPos ER (cellAt p) 0 ∅ 0) ⊢ |={Set.univ}=> (semVal (cellAt p) 0 : sProp 𝕄) := by
  iintro ⟨#HR, H⟩
  icases (records_at m K p) $$ HR with ⟨HI, -⟩
  iapply (Rounds.cell_close ER (sched m) (Set.mem_univ (K p)) (fun h => h) (R := 0) (g := cellAt p) fun r _ => h r)
  isplitl [HI]; · iexact HI
  iexact H

theorem duties_snd_none {c : Dev nD} {k : Fin 19} (h : ¬ has c k = true) (r : ℕ) : (sched m).duties (sndC c k) r = ∅ := by
  rcases Nat.eq_zero_or_pos r with rfl | hr
  · rw [duties_snd, if_neg h]
  · exact duties_later m _ r hr
theorem duties_rcv_none {c : Dev nD} {k : Fin 19} (h : ¬ hasR c k = true) (r : ℕ) : (sched m).duties (rcvC c k) r = ∅ := by
  rcases Nat.eq_zero_or_pos r with rfl | hr
  · rw [duties_rcv, if_neg h]
  · exact duties_later m _ r hr

/-- The cells that no transfer uses are closed at once. -/
theorem snd_open1 (c : Dev nD) (k : Fin 19) : iprop(records m K ∗ atPos ER (sndC c k) 0 ∅ 0) ⊢ |={Set.univ}=> (sA c k : sProp 𝕄) := by
  unfold sA
  by_cases h : has c k = true
  · rw [if_pos h]
    iintro ⟨-, H⟩; imodintro; iexact H
  · rw [if_neg h]
    exact close_unused m K (c, some (.inl k)) (duties_snd_none m h)
theorem rcv_open1 (c : Dev nD) (k : Fin 19) :
    iprop(records m K ∗ (atPos ER (rcvC c k) 0 ∅ 0 ∗ when (hasR c k) (cred (tallyAt (rcvC c k) () (amt k))))) ⊢ |={Set.univ}=> (rcv0 c k : sProp 𝕄) := by
  unfold rcv0
  by_cases h : hasR c k = true
  · rw [if_pos h, when_pos h]
    iintro ⟨-, H⟩; imodintro; iexact H
  · rw [if_neg h]
    refine Idealize.SL.BI.BIBase.Entails.trans ?_ (close_unused m K (c, some (.inr k)) (duties_rcv_none m h))
    iintro ⟨H1, H2, -⟩
    isplitl [H1]; · iexact H1
    iexact H2

theorem snd_open (c : Dev nD) : iprop(records m K ∗ bigSep Finset.univ fun k : Fin 19 => atPos ER (sndC c k) 0 ∅ 0)
    ⊢ |={Set.univ}=> (bigSep Finset.univ fun k : Fin 19 => sA c k : sProp 𝕄) :=
  (with_persistent (R := records m K) (Ψ := fun k => iprop(|={Set.univ}=> sA c k)) fun k _ => snd_open1 m K c k).trans (bigSep_fupd _ _)
theorem rcv_open (c : Dev nD) : iprop(records m K ∗ (bigSep Finset.univ fun k : Fin 19 => atPos ER (rcvC c k) 0 ∅ 0) ∗ rcreds c)
    ⊢ |={Set.univ}=> (bigSep Finset.univ fun k : Fin 19 => rcv0 c k : sProp 𝕄) := by
  unfold rcreds
  rw [← bigSep_sep']
  exact (with_persistent (R := records m K) (Ψ := fun k => iprop(|={Set.univ}=> rcv0 c k)) fun k _ => rcv_open1 m K c k).trans (bigSep_fupd _ _)

/-- The arrays that no window stages, as launched. -/
def arrs (c : Dev nD) : sProp 𝕄 := iprop(PA m c ∗ (((c : Thread nD τ).loc main_arg1) ↦{fullShare} m ((c : Thread nD τ).loc main_arg1))
  ∗ (((c : Thread nD τ).loc main_v1_0) ↦{fullShare} m ((c : Thread nD τ).loc main_v1_0)) ∗ (((c : Thread nD τ).loc main_v1_1) ↦{fullShare} m ((c : Thread nD τ).loc main_v1_1)))

theorem locals_open (c : Dev nD) : (locals c : sProp 𝕄) ⊢ iprop(semVal ((c : Thread nD τ), .dma lsem0) 0 ∗ semVal ((c : Thread nD τ), .dma lsem1) 0
    ∗ semVal ((c : Thread nD τ), .dma nsem0) 0 ∗ semVal ((c : Thread nD τ), .dma nsem1) 0 ∗ semVal ((c : Thread nD τ), .dma osem0) 0) := by
  unfold locals
  rw [fin5]
  exact same (F := F) _
theorem locals_close (c : Dev nD) : iprop(semVal ((c : Thread nD τ), .dma lsem0) 0 ∗ semVal ((c : Thread nD τ), .dma lsem1) 0
    ∗ semVal ((c : Thread nD τ), .dma nsem0) 0 ∗ semVal ((c : Thread nD τ), .dma nsem1) 0 ∗ semVal ((c : Thread nD τ), .dma osem0) 0) ⊢ (locals c : sProp 𝕄) := by
  unfold locals
  rw [fin5]
  exact same (F := F) _

theorem snd00s (c : Dev nD) : iprop((bigSep Finset.univ fun k : Fin 19 => toks c k) ∗ bigSep Finset.univ fun k : Fin 19 => sA c k)
    ⊢ (bigSep Finset.univ fun k : Fin 19 => snd00 c k : sProp 𝕄) := by
  rw [← bigSep_sep']
  refine bigSep_mono fun k _ => ?_
  unfold snd00
  exact sep_mono_left (when_intro (F := F) _ _)

set_option maxHeartbeats 1000000 in
theorem enter (c : Dev nD) : iprop(records m K ∗ linear c ∗ cred (tallyAt (barC c) () (barN c)) ∗ rcreds c ∗ arrs m c
      ∗ Pipeline.scopedRest (Ix := Unit) (Name := ℕ) (U := UU) (Lvl := ℕ) (Val := Elt F) spec0 c ∗ GA m c ∗ OW c oAll)
    ⊢ |={Set.univ}=> bodyStart m c := by
  unfold linear payT arrs bodyStart bar0 XF NS
  rw [scopedRest0_eq, roles]
  iintro ⟨#HR, ⟨⟨⟨HS, HV⟩, HB⟩, ⟨HT, HK⟩, HL⟩, HCB, HCR, ⟨HA, H1, HO, HW⟩, ⟨HQ, HP, HX, HN3, HN4, HN5⟩, HG, HOW⟩
  imod (snd_open m K c) $$ [HS] with HS
  · isplitl []; · iexact HR
    iexact HS
  imod (rcv_open m K c) $$ [HV HCR] with HV
  · isplitl []; · iexact HR
    isplitl [HV]; · iexact HV
    iexact HCR
  imodintro
  icases (locals_open c) $$ HL with ⟨L0, L1, N0, N1, O0⟩
  icases (lands_deal c) $$ [HQ HW] with ⟨HW, HD⟩
  · isplitl [HQ]; · iexact HQ
    iexists _; iexact HW
  ihave HD := (bsigs_intro c) $$ [HT HD]
  · isplitl [HT]; · iexact HT
    iexact HD
  ihave HS := (snd00s c) $$ [HK HS]
  · isplitl [HK]; · iexact HK
    iexact HS
  ihave HP := (sb_deal c) $$ HP
  iframe HD HCB HX HA L0 HP HW L1 HN3 HN4 HN5 H1 N0 N1 O0 HG HS HV HOW
  isplitl [HB]; · iexact HB
  iexists _
  isplitl [HO]; · iexact HO
  ipureintro
  intro i hi
  exact absurd hi (Finset.notMem_empty _)

/-! ## Out of it -/

theorem cov_all : ∀ (c : Dev nD) (j : Fin 32), j.val ∈ covAll c := by decide +kernel

/-- The arrays at the end. -/
def ends (c : Dev nD) : sProp 𝕄 := iprop(PA m c ∗ (((c : Thread nD τ).loc main_arg1) ↦{fullShare} m ((c : Thread nD τ).loc main_arg1))
  ∗ (((c : Thread nD τ).loc main_v1_0) ↦{fullShare} Ofin m c))

theorem res_whole (c : Dev nD) {f : Buf (Elt F) ((c : Thread nD τ).loc main_v1_0)}
    (h : ∀ i : S8192x2048.Idx, (i 0).val / 256 ∈ covAll c → f i = Ofin m c i) : f = Ofin m c := by
  funext i
  have h0 : (i 0).val < 8192 := (i 0).isLt
  exact h i (cov_all c ⟨(i 0).val / 256, by omega⟩)

set_option maxHeartbeats 1000000 in
theorem leave (c : Dev nD) : bodyEnd m c ⊢ iprop((unscopedSems0 c ∗ ends m c) ∗ Pipeline.ownSems0 (Ix := Unit) (Name := ℕ) (U := UU) (Lvl := ℕ) (Val := Elt F) (τ := τ) osem c
      ∗ Pipeline.scopedRest (Ix := Unit) (Name := ℕ) (U := UU) (Lvl := ℕ) (Val := Elt F) spec0 c ∗ GA m c ∗ OW c []) := by
  unfold bodyEnd doneC NS XF ends
  rw [unscopedSems0_eq, ownSems0_eq, scopedRest0_eq, bigSep_sep']
  iintro ⟨HB, ⟨HS, HV⟩, ⟨HX, HA, L0⟩, HP, HQ, L1, ⟨HN3, HN4, HN5, H1, ⟨%f, HO, %hf⟩, N0, N1, O0⟩, HG, HOW⟩
  have he := res_whole m c hf
  subst he
  ihave HP := (sb_collect c) $$ HP
  ihave HQ := (rq_collect c _ _ _) $$ HQ
  ihave HL := (locals_close c) $$ [L0 L1 N0 N1 O0]
  · iframe L0 L1 N0 N1 O0
  iframe

end Cert.KernelIdeal.Norm
-- ==== Proof.KernelIdeal.Run.lean ====
/-
# The run

The kernel launched on every device: it ends, its arguments unchanged, its result on device `c` at `Ofin m c`, every
semaphore at zero.
-/
module

public import proofs.«01_k».proof.Proof.KernelIdeal.Enter
public import proofs.«01_k».proof.Proof.Gen.KernelIdeal.Points
public import Idealize.ShloMosaic.Lib.Pipeline.CollectiveSegs

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ
local notation "𝕋" => TpuEff nD τ sig (Elt F) Λ₀ (Proc.tc : Proc τ)

variable (m : (ℓ : Loc nD τ sig) → Buf (Elt F) ℓ)

variable (ρ : Dev nD → PrngReg)

/-! ## The pipeline's proof data -/

theorem fin_N (t : Fin cfg0.N) : t = t0_0 := fin_N0 t

def gamStg (c : Dev nD) : (cc0_stg0_0 : Ref sig .tc).ty.Contents (Elt F) :=
  (win0_0.blk (0 : Fin 1)).view.read (Elt F) ((s₀ m ρ).mem ((c : Thread nD τ).loc main_arg2))

theorem gamStg_eq (c : Dev nD) : gamStg m ρ c = m ((c : Thread nD τ).loc main_arg2) := by
  exact Memref.read_access_unit_zero (Elt F) main_arg2
    (show (fun a => (win0_0.index t0_0) a * main_arg2.ty.shape.size a) = fun _ => 0 from
      funext fun a => by fin_cases a; decide) (fun a => by fin_cases a; decide) _

/-- What a device starts from. -/
def start (c : Dev nD) : sProp 𝕄 :=
  iprop(G' m c ∗ cred (tallyAt (barC c) () (barN c)) ∗ rcreds c ∗ levAts L lv ∗ arrs m c)

def Φ₀ (c : Dev nD) : sProp 𝕄 := iprop(start m c ∗ Pipeline.scopedRest (Ix := Unit) (Name := ℕ) (U := UU) (Lvl := ℕ) (Val := Elt F) spec0 c)
def Φ₁ (c : Dev nD) : sProp 𝕄 := iprop((unscopedSems0 c ∗ ends m c)
  ∗ Pipeline.ownSems0 (Ix := Unit) (Name := ℕ) (U := UU) (Lvl := ℕ) (Val := Elt F) (τ := τ) osem c
  ∗ Pipeline.scopedRest (Ix := Unit) (Name := ℕ) (U := UU) (Lvl := ℕ) (Val := Elt F) spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gamStg m ρ c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m c ∗ (dats m ρ 0 c).owesAt () t0_0.succ ∗ stg c cc0_stg0_0 (gamStg m ρ c))

set_option maxHeartbeats 1000000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ WP c (atArgs (cc0__body (F := F))) (fun _ => bodyPost m ρ c)
  unfold bodyPre Φ₀ start G'
  iintro ⟨⟨⟨⟨%K, #HR, HL⟩, HCB, HCR, #Hlev, HA⟩, HS⟩, Ho, ⟨%d0, %g0, %hg0, Hg⟩⟩
  have hx : g0 = gamStg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  imod (enter m K c) $$ [HL HCB HCR HA HS Hg HO] with HB
  · isplitl []; · iexact HR
    isplitl [HL]; · iexact HL
    isplitl [HCB]; · iexact HCB
    isplitl [HCR]; · iexact HCR
    isplitl [HA]; · iexact HA
    isplitl [HS]; · iexact HS
    isplitl [Hg]
    · unfold GA; rw [gamStg_eq]; iexact Hg
    · unfold OW O₀; iexists W; iexact HO
  ihave Hw := (body_run m K c) $$ [HB]
  · isplitl []
    · unfold ctx; isplitl []; · iexact HR
      iexact Hlev
    · iexact HB
  iapply (wp_wand frame (wpE (defs₀ (F := F)) 𝒱₀ (c : Thread nD τ) none) Set.univ (Q := fun _ => bodyEnd m c)) $$ Hw
  iintro %x HE
  ihave HE := (leave m c) $$ HE
  icases HE with ⟨HU, HS, HR2, HG, HO⟩
  unfold bodyPost Φ₁ OW Dat.owesAt Pipeline.owesWithin
  icases HO with ⟨%W', HO⟩
  iframe HU HS HR2
  isplitl [HO]
  · iexists W'
    isplitl []; · ipureintro; exact fun _ _ => Or.inl trivial
    iexact HO
  · rw [gamStg_eq]
    iexists (m ((c : Thread nD τ).loc main_arg2))
    isplitl []; · ipureintro; rfl
    unfold GA; iexact HG

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨HA0, HA1, HA2, HA3⟩, Hlev, Hcr, -, HG⟩
  ihave Hc := (creds (F := F) c) $$ Hcr
  icases Hc with ⟨HB, HR⟩
  imodintro
  unfold start arrs
  isplitl
  · isplitl [HG]; · iexact HG
    isplitl [HB]; · iexact HB
    isplitl [HR]; · iexact HR
    isplitl [Hlev]; · iexact Hlev
    isplitl [HA0]; · unfold PA; iexact HA0
    isplitl [HA1]; · iexact HA1
    isplitl [HA2]; · iexact HA2
    iexact HA3
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop((unscopedSems0 c ∗ ends m c) ∗ Pipeline.ownSems0 osem c ∗ Pipeline.scopedRest cfg0.spec c) := by
  rw [show (dats m ρ 0 c).Φ (Fin.last cfg0.N) = Φ₁ m c from rfl]
  unfold Φ₁
  exact same _

theorem share_eq (c : Dev nD) (w : Fin cfg0.W) : (dats (F := F) m ρ 0 c).share w = fullShare := by
  unfold Dat.share; split <;> rfl

theorem lev_all (o : Ob) (_ : o ∈ oAll) : 0 < o.lev := lev_pos o

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of (c := c) (l := oAll) 0 (by fin_cases w; fin_cases s; exact lv_free c (s := sem0_0 0) (by decide)) lev_all
    · show _ ⊢ MayWait _ _ _ 0
      rw [MayWait_zero]; iintro -; iempintro

/-! ## The run -/

/-- What a final state holds on device `c`. -/
def Done (s : MemSt nD τ sig (Elt F)) (c : Dev nD) : Prop :=
  s.mem ((c : Thread nD τ).loc main_v1_0) = Ofin m c ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

theorem fund : BI.own ((Emb.inl.trans embR : Emb UB 𝕄) (initOf allCells allToks)) ⊢ |==> bigSep Finset.univ (G m) := fund_all m

/-- What the memory holds of an array that a device ends with. -/
theorem mem_read {s' : Phys nD τ sig (Elt F)} {ℓ : Loc nD τ sig} (f : Buf (Elt F) ℓ) :
    iprop(SI s' ∗ ℓ ↦{fullShare} f) ⊢ (⌜s'.mem.mem ℓ = f⌝ : sProp 𝕄) :=
  SI_pointsTo_agree.trans (BI.pure_mono fun h => funext fun i => h i (Finset.mem_univ i))

set_option maxRecDepth 8000 in
theorem run_main : θ_run defs (onTc (τ := τ) (main (F := F))) (s₀ m ρ) (fun r => (∀ c, Done m r.2 c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund m) $$ HX with HG
      imodintro
      isplitl [HP] <;> iassumption)
    (hglob := glob m)
    (hA := fun _ _ => rfl) (hpf := fun _ k => k.elim0)
    (X := start m) (Y := fun c => iprop(unscopedSems0 c ∗ ends m c)) (Z := fun _ => iprop(emp))
    (hX := start_intro m ρ) (hin := phi0_intro m ρ) (hout := phi1_exit m ρ)
    (QY := fun c s => (s.mem ((c : Thread nD τ).loc main_v1_0) = Ofin m c ∧ s.mem ((c : Thread nD τ).loc main_arg0) = m ((c : Thread nD τ).loc main_arg0)
      ∧ s.mem ((c : Thread nD τ).loc main_arg1) = m ((c : Thread nD τ).loc main_arg1)) ∧ ∀ sm : SemLoc sig, sm.isScoped .tc = false → s.sem ((c.tc : Thread nD τ), sm) = 0)
    (hY := fun c s' => by
      iintro ⟨⟨Hu, He⟩, -, HSI⟩
      unfold ends PA
      icases He with ⟨H0, H1, HO⟩
      ihave %h0 := (mem_read (F := F) (m ((c : Thread nD τ).loc main_arg0))) $$ [H0 HSI]
      · isplitl [HSI] <;> iassumption
      ihave %h1 := (mem_read (F := F) (m ((c : Thread nD τ).loc main_arg1))) $$ [H1 HSI]
      · isplitl [HSI] <;> iassumption
      ihave %h2 := (mem_read (F := F) (ℓ := (c : Thread nD τ).loc main_v1_0) (Ofin m c)) $$ [HO HSI]
      · isplitl [HSI] <;> iassumption
      imod (Pipeline.unscopedSems0_read (X := unscopedSems0 c) (c := c) fupd_intro s') $$ [Hu HSI] with ⟨%h3, HSI⟩
      · isplitl [Hu] <;> iassumption
      imodintro
      isplitr; · ipureintro; exact ⟨⟨h2, h0, h1⟩, h3⟩
      iexact HSI)
    (hQ := fun _ h hs => ⟨fun c => ⟨(h c).2.2.1.1, (h c).2.2.1.2.1, (h c).2.2.1.2.2, ((h c).1 (0 : Fin 1)).trans ((dats (F := F) m ρ 0 c).arrAt_in (0 : Fin 1) rfl _)⟩, sem_eq_zero hs fun c => (h c).2.2.2⟩)

end Cert.KernelIdeal.Norm
-- ==== Proof.KernelIdeal.Value.lean ====
/-
# The result in exact arithmetic

Over the extended reals the four running sums of a chunk are the sum over the four devices along the `y` axis, so that
the reduced array is the sum of the partial arrays, and the result is the normalized sum.
-/
module

public import proofs.«01_k».proof.Proof.KernelIdeal.Run
public import Idealize.ShloMosaic.Lib.Pointwise
public import Idealize.ShloMosaic.Lib.Layout

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The running sums at an index -/

theorem acc0_at (c : Dev nD) (r : Fin 256) (l : Fin 2048) :
    acc0 m c (ix3 (0 : Fin 1) r l) = (xch m c 0 (ix2 r l) : EReal) := by
  pointwise [acc0, k0_pay15]

theorem acc1_at (c : Dev nD) (r : Fin 256) (l : Fin 2048) :
    acc1 m c (ix3 (0 : Fin 1) r l) = (xch m c 1 (ix2 r l) + acc0 m (left c) (ix3 (0 : Fin 1) r l) : EReal) := by
  pointwise [acc1, k0_pay16, k0_pay17]

theorem acc2_at (c : Dev nD) (r : Fin 256) (l : Fin 2048) :
    acc2 m c (ix3 (0 : Fin 1) r l) = (xch m c 2 (ix2 r l) + acc1 m (left c) (ix3 (0 : Fin 1) r l) : EReal) := by
  pointwise [acc2, k0_pay18]

theorem acc3_at (c : Dev nD) (r : Fin 256) (l : Fin 2048) :
    acc3 m c (ix3 (0 : Fin 1) r l) = (xch m c 3 (ix2 r l) + acc2 m (left c) (ix3 (0 : Fin 1) r l) : EReal) := by
  pointwise [acc3, k0_pay19]

/-- An element of a normalized row: from the row of sums and the scale. -/
def nrm (y g : Fin 2048 → EReal) (l : Fin 2048) : EReal :=
  Ideal.div (y l) (Ideal.sqrt (Ideal.div (∑ k, y k * y k) (Ideal.ofBits .f32 0x45000000#32) + Ideal.ofBits .f32 0x358637BD#32)) * g l

theorem pay1_at (g : FVec Ideal S1x2048 .f32) (w : Vec Ideal S256x2048 .bf16) (x : Vec Ideal S256x2048 .f32) (r : Fin 256) (l : Fin 2048) :
    k0_pay1 g w x (ix2 r l) = nrm (fun k => (w (ix2 r k) + x (ix2 r k) : EReal)) (fun k => g (ix2 (0 : Fin 1) k)) l := by
  pointwise [k0_pay1, nrm]

theorem gam_at (c : Dev nD) (l : Fin 2048) : gam m c (ix2 (0 : Fin 1) l) = m ((c : Thread nD τ).loc main_arg2) (ix1 l) := by
  pointwise [gam, k0_pay20]

/-! ## The reduced array -/

variable (A : (⟨3, ![4, 8192, 2048]⟩ : Shape).Idx → EReal)

/-- The partial arrays are the four blocks of one array, cut along the `y` axis. -/
def Cut : Prop := ∀ c : Dev nD, m ((c : Thread nD τ).loc main_arg0)
  = Layout.blockN ⟨3, ![1, 8192, 2048]⟩ ⟨3, ![4, 8192, 2048]⟩ (Layout.meshBlock [2, 4, 4] ![[1], [], []] c) A

variable {m A} in
theorem Cut.at (h : Cut m A) (c : Dev nD) (r : Fin 8192) (l : Fin 2048) :
    m ((c : Thread nD τ).loc main_arg0) (ValueIdx.ix3 (0 : Fin 1) r l) = A (ix3 (⟨cy c, Nat.mod_lt _ (by decide)⟩ : Fin 4) r l) := by
  rw [h c, Layout.blockN_apply]
  congr 1
  funext a
  apply Fin.ext
  rw [Layout.TilesN.idx_val]
  fin_cases a
  · show (c.val / 4 % 4 * 1 + 0) * 1 + 0 = c.val / 4 % 4
    omega
  · show 0 * 8192 + r.val = r.val
    omega
  · show 0 * 2048 + l.val = l.val
    omega

variable {m A} in
theorem xch_at (h : Cut m A) (c : Dev nD) (s : ℕ) (r : Fin 256) (l : Fin 2048) (d : Fin 4) (R : Fin 8192)
    (hd : cy c = d.val) (hR : (pRow c s + r.val) % 8192 = R.val) : xch m c s (ix2 r l) = A (ix3 d R l) := by
  unfold xch
  refine (h.at c _ _).trans ?_
  congr 1
  congr 1
  · exact Fin.ext hd
  · exact Fin.ext hR

/-- The devices along the `y` axis, from one of them downwards. -/
theorem cy_left (c : Dev nD) : cy (left c) = (cy c + 3) % 4 := by revert c; decide +kernel
theorem base_left (c : Dev nD) : base (left c) = base c := by revert c; decide +kernel

theorem sum_four (f : Fin 4 → EReal) (a b c d : Fin 4) (hb : b.val = (a.val + 3) % 4) (hc : c.val = (b.val + 3) % 4)
    (hd : d.val = (c.val + 3) % 4) : f a + (f b + (f c + f d)) = ∑ k, f k := by
  have eb : b = a + 3 := Fin.ext hb
  have ec : c = b + 3 := Fin.ext hc
  have ed : d = c + 3 := Fin.ext hd
  subst eb ec ed
  rw [Fin.sum_univ_four]
  fin_cases a
  · show f 0 + (f 3 + (f 2 + f 1)) = _
    ac_rfl
  · show f 1 + (f 0 + (f 3 + f 2)) = _
    ac_rfl
  · show f 2 + (f 1 + (f 0 + f 3)) = _
    ac_rfl
  · show f 3 + (f 2 + (f 1 + f 0)) = _
    ac_rfl

/-- The device that reduces row `R`. -/
def home (R : ℕ) : Dev nD := mk (R / 1024) (R / 256 + 3) (R / 2048)

theorem mid_coord (x y z : ℕ) (hy : y < 4) (hz : z < 4) : (16 * x + 4 * y + z) / 4 % 4 = y := by omega

theorem home_row (R : ℕ) (h : R < 8192) : base (home R) + 256 * ((cy (home R) + 1) % 4) + R % 256 = R := by
  have hx : cx (home R) = R / 1024 % 2 := by
    show (16 * (R / 1024 % 2) + 4 * ((R / 256 + 3) % 4) + R / 2048 % 4) / 16 = _
    omega
  have hy : cy (home R) = (R / 256 + 3) % 4 := by
    show (16 * (R / 1024 % 2) + 4 * ((R / 256 + 3) % 4) + R / 2048 % 4) / 4 % 4 = _
    exact mid_coord _ _ _ (Nat.mod_lt _ (by decide)) (Nat.mod_lt _ (by decide))
  have hz : cz (home R) = R / 2048 % 4 := by
    show (16 * (R / 1024 % 2) + 4 * ((R / 256 + 3) % 4) + R / 2048 % 4) % 4 = _
    omega
  rw [show base (home R) = 2048 * cz (home R) + 1024 * cx (home R) from rfl, hx, hy, hz]
  omega

variable {m A} in
theorem Wfin_at (h : Cut m A) (R : Fin 8192) (l : Fin 2048) : Wfin m (ix2 R l) = ∑ k : Fin 4, A (ix3 k R l) := by
  have hr := home_row R.val R.isLt
  have e1 := cy_left (home R.val)
  have e2 := cy_left (left (home R.val))
  have e3 := cy_left (left (left (home R.val)))
  have b1 := base_left (home R.val)
  have b2 := base_left (left (home R.val))
  have b3 := base_left (left (left (home R.val)))
  have hR := R.isLt
  show acc3 m (home R.val) (ValueIdx.ix3 (0 : Fin 1) (⟨R.val % 256, _⟩ : Fin 256) l) = _
  rw [← ix3_eq_valueIdx, acc3_at, acc2_at, acc1_at, acc0_at,
    xch_at h (home R.val) 3 _ l ⟨cy (home R.val), Nat.mod_lt _ (by decide)⟩ R rfl (by unfold pRow; dsimp only; omega),
    xch_at h (left (home R.val)) 2 _ l ⟨cy (left (home R.val)), Nat.mod_lt _ (by decide)⟩ R rfl (by unfold pRow; dsimp only; omega),
    xch_at h (left (left (home R.val))) 1 _ l ⟨cy (left (left (home R.val))), Nat.mod_lt _ (by decide)⟩ R rfl (by unfold pRow; dsimp only; omega),
    xch_at h (left (left (left (home R.val)))) 0 _ l ⟨cy (left (left (left (home R.val)))), Nat.mod_lt _ (by decide)⟩ R rfl (by unfold pRow; dsimp only; omega)]
  exact sum_four (fun k => A (ix3 k R l)) _ _ _ _ e1 e2 e3

/-! ## The result -/

variable {m A} in
/-- The result on device `c` at an index: the normalized row of the summed partial arrays and the residual. -/
theorem Ofin_sum (h : Cut m A) (c : Dev nD) (R : Fin 8192) (l : Fin 2048) :
    Ofin m c (ix2 R l) = nrm (fun k => (∑ a : Fin 4, A (ix3 a R k) + m ((c : Thread nD τ).loc main_arg1) (ix2 R k) : EReal))
      (fun k => m ((c : Thread nD τ).loc main_arg2) (ix1 k)) l := by
  have hR := R.isLt
  have hrow : (⟨(256 * (R.val / 256) + R.val % 256) % 8192, Nat.mod_lt _ (by decide)⟩ : Fin 8192) = R := Fin.ext (by dsimp only; omega)
  show nchunk m c (256 * (R.val / 256)) (ValueIdx.ix2 (⟨R.val % 256, _⟩ : Fin 256) l) = _
  rw [← ix2_eq_valueIdx]
  unfold nchunk
  rw [pay1_at]
  congr 1
  · funext k
    rw [← Wfin_at h R k]
    have hc : ∀ {α : Type} (f : S8192x2048.Idx → α), chunk (256 * (R.val / 256)) f (ix2 (⟨R.val % 256, Nat.mod_lt _ (by decide)⟩ : Fin 256) k) = f (ix2 R k) := by
      intro α f
      show f (ValueIdx.ix2 (⟨(256 * (R.val / 256) + R.val % 256) % 8192, _⟩ : Fin 8192) k) = _
      rw [hrow, ← ix2_eq_valueIdx]
    rw [hc, hc]
  · funext k
    exact gam_at m c k

end Cert.KernelIdeal.Norm
-- ==== Proof.ReferenceIdeal.Value.lean ====
/-
# The reference's result

The reference's result at an index: the same normalized row as the kernel's.
-/
module

public import proofs.«01_k».proof.Proof.Gen.ReferenceIdeal.Run
public import proofs.«01_k».proof.Proof.KernelIdeal.Value

@[expose] public section

noncomputable section

namespace Cert.ReferenceIdeal.Norm

open Cert.ReferenceIdeal Cert.ReferenceIdeal.Gen
open Idealize.ShloMosaic Idealize.ShloMosaic.TcCoe
open Cert.KernelIdeal.Norm (nrm)

variable (A : FVec Ideal S4x8192x2048 .f32) (X : FVec Ideal S8192x2048 .f32) (G : FVec Ideal S2048 .f32)

/-- The sum of the partial arrays and the residual. -/
def total : FVec Ideal S8192x2048 .f32 :=
  addf (Host.reduceAdd A (constant S_ .f32 0x00000000#32) reducesTo_S4x8192x2048_S8192x2048_d0 h_S_) X

/-- The reference's result, as its operations compute it. -/
def result : FVec Ideal S8192x2048 .f32 :=
  mulf (Host.divf (total A X) (broadcastInDim S8192x2048 ![0, 1] bcast_S8192x1_S8192x2048_0_1
      (Host.sqrt (addf (Host.divf (broadcastInDim S8192x1 ![0] bcast_S8192_S8192x1_0
        (Host.reduceAdd (mulf (total A X) (total A X)) (constant S_ .f32 0x00000000#32) reducesTo_S8192x2048_S8192_d1 h_S_))
        (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 G))

theorem total_at (R : Fin 8192) (l : Fin 2048) :
    total A X (ix2 R l) = (∑ a : Fin 4, A (ix3 a R l) + X (ix2 R l) : EReal) := by
  pointwise [total]

theorem result_at (R : Fin 8192) (l : Fin 2048) :
    result A X G (ix2 R l) = nrm (fun k => (∑ a : Fin 4, A (ix3 a R k) + X (ix2 R k) : EReal)) (fun k => G (ix1 k)) l := by
  pointwise [result, nrm, total_at]

end Cert.ReferenceIdeal.Norm
-- ==== Proof.lean ====
/-
# The claim

Both kernels run to their end on every device, with their arguments unchanged and every semaphore at zero; the
reference likewise; and in exact arithmetic the kernel's result on every device is the reference's.
-/
module

public import proofs.«01_k».proof.Defs
public import proofs.«01_k».proof.Proof.Gen.ReferenceIdeal.Run
public import proofs.«01_k».proof.Proof.ReferenceIdeal.Value
public import proofs.«01_k».proof.Proof.Kernel.Run
public import proofs.«01_k».proof.Proof.KernelIdeal.Run

@[expose] public section

noncomputable section

namespace Cert.Proof

open Idealize.ShloMosaic Idealize.SL.Sem

/-- The kernel's frame, -/
theorem frame_kernel : Cert.quiescent_Kernel := fun m g _ =>
  (θ_run _ _ _).mono (fun _ h => ⟨fun c => (h.1 c).2, h.2⟩) (Cert.Kernel.Norm.run_main m g)

/-- the idealized kernel's, -/
theorem frame_ideal : Cert.quiescent_KernelIdeal := fun m g _ =>
  (θ_run _ _ _).mono (fun _ h => ⟨fun c => (h.1 c).2, h.2⟩) (Cert.KernelIdeal.Norm.run_main m g)

/-- The reference has no semaphore. -/
theorem no_sem (s : GSem Cert.ReferenceIdeal.nD Cert.ReferenceIdeal.τ Cert.ReferenceIdeal.sig) : False := by
  obtain ⟨_, s⟩ := s
  cases s with
  | reg s => exact s.elim0
  | dma s => exact s.elim0

/-- and the reference's. -/
theorem frame_reference : Cert.quiescent_ReferenceIdeal := fun m g _ =>
  (θ_run _ _ _).mono (fun _ h => ⟨fun c => (h c).2, funext fun s => (no_sem s).elim⟩) (Cert.ReferenceIdeal.Value.run m g)

/-- The kernel's result on a device is the reference's, of the same arrays. -/
theorem same_result (m : (ℓ : Loc Cert.KernelIdeal.nD Cert.KernelIdeal.τ Cert.KernelIdeal.sig) → Buf (Elt Ideal) ℓ)
    (c : Dev Cert.KernelIdeal.nD) (A : FVec Ideal Cert.ReferenceIdeal.S4x8192x2048 .f32)
    (X : FVec Ideal Cert.ReferenceIdeal.S8192x2048 .f32) (G : FVec Ideal Cert.ReferenceIdeal.S2048 .f32)
    (hA : Cert.KernelIdeal.Norm.Cut m A)
    (hX : m ((c.tc : Thread Cert.KernelIdeal.nD Cert.KernelIdeal.τ).loc Cert.KernelIdeal.main_arg1) = X)
    (hG : m ((c.tc : Thread Cert.KernelIdeal.nD Cert.KernelIdeal.τ).loc Cert.KernelIdeal.main_arg2) = G) :
    Cert.KernelIdeal.Norm.Ofin m c = Cert.ReferenceIdeal.Norm.result A X G := by
  subst hX hG
  funext i
  rw [eq_ix2 i]
  exact (Cert.KernelIdeal.Norm.Ofin_sum hA c _ _).trans (Cert.ReferenceIdeal.Norm.result_at A _ _ _ _).symm

/-- In exact arithmetic every device ends with the reference's result. -/
theorem algebraic : Cert.algebraic_KernelIdeal_ReferenceIdeal := fun m g m' g' _ hag =>
  ⟨_, (θ_run _ _ _).mono (fun _ h c => ⟨(h.1 c).1.trans (same_result m c _ _ _ (fun d => (hag d).1) (hag c).2.1 (hag c).2.2), (h.1 c).2⟩) (Cert.KernelIdeal.Norm.run_main m g),
    (θ_run _ _ _).mono (fun _ h => ⟨(h 0).1, (h 0).2⟩) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
